-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_rep" .f32 0x3F555555#32 (((5033165 / 4194304)⁻¹ : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tokens_in_range : Cert.Pre_tokens_in_range.Facts) (hPre_finite_and_in_range : Cert.Pre_finite_and_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S128x32768 : Shape := ⟨2, ![128, 32768]⟩
abbrev S128 : Shape := ⟨1, ![128]⟩
abbrev S128x50 : Shape := ⟨2, ![128, 50]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel
  bcast_S_S128 : S_.BroadcastsInDim S128 (![] : Fin 0 → Fin S128.rank)
  reducesTo_S128_S_d0 : S128.ReducesTo [0] S_
  bcast_S_S128x50 : S_.BroadcastsInDim S128x50 (![] : Fin 0 → Fin S128x50.rank)
  reducesTo_S128x50_S_d0_1 : S128x50.ReducesTo [0, 1] S_

variable [Facts]

def fn {F : FTy → Type} [FloatOps F] (main_arg0 : FVec F S128x32768 .f32) (main_arg1 : FVec F S128 .f32) (main_arg2 : IVec S128x50 32) : IVec S_ 1 :=
  let main_v0 : FVec F S128x32768 .f32 := Host.absf main_arg0
  let main_cst : FVec F S_ .f32 := constant S_ .f32 0x7F800000#32
  let main_v1 : FVec F S128x32768 .f32 := broadcastInDim S128x32768 ![] bcast_S_S128x32768 main_cst
  let main_v2 : IVec S128x32768 1 := cmpf .olt main_v0 main_v1
  let main_c : IVec S_ 1 := constantI S_ 1 1#1
  let main_v3 : IVec S_ 1 := (fun x v => Host.reduce IntOp.andi x v reducesTo_S128x32768_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S128x50 32 := broadcastInDim S128x50 ![] bcast_S_S128x50 main_c_2
  let main_v10 : IVec S128x50 1 := cmpi .sge main_arg2 main_v9
  let main_c_3 : IVec S_ 32 := constantI S_ 32 32768#32
  let main_v11 : IVec S128x50 32 := broadcastInDim S128x50 ![] bcast_S_S128x50 main_c_3
  let main_v12 : IVec S128x50 1 := cmpi .slt main_arg2 main_v11
  let main_v13 : IVec S128x50 1 := andi main_v10 main_v12
  let main_c_4 : IVec S_ 1 := constantI S_ 1 1#1
  let main_v14 : IVec S_ 1 := (fun x v => Host.reduce IntOp.andi x v reducesTo_S128x50_S_d0_1 h_S_) main_v13 main_c_4
  let main_v15 : IVec S_ 1 := andi main_v8 main_v14
  main_v15
-- ==== Pre_tokens_in_range.lean ====
abbrev S128x32768 : Shape := ⟨2, ![128, 32768]⟩
abbrev S128 : Shape := ⟨1, ![128]⟩
abbrev S128x50 : Shape := ⟨2, ![128, 50]⟩
abbrev S_ : Shape := ⟨0, ![]⟩

class Facts : Prop where
  bcast_S_S128x50 : S_.BroadcastsInDim S128x50 (![] : Fin 0 → Fin S128x50.rank)
  reducesTo_S128x50_S_d0_1 : S128x50.ReducesTo [0, 1] S_
  h_S_ : 0 < S_.numel

variable [Facts]

def fn {F : FTy → Type} [FloatOps F] (main_arg0 : FVec F S128x32768 .f32) (main_arg1 : FVec F S128 .f32) (main_arg2 : IVec S128x50 32) : IVec S_ 1 :=
  let main_c : IVec S_ 32 := constantI S_ 32 0#32
  let main_v0 : IVec S128x50 32 := broadcastInDim S128x50 ![] bcast_S_S128x50 main_c
  let main_v1 : IVec S128x50 1 := cmpi .sge main_arg2 main_v0
  let main_c_0 : IVec S_ 32 := constantI S_ 32 32768#32
  let main_v2 : IVec S128x50 32 := broadcastInDim S128x50 ![] bcast_S_S128x50 main_c_0
  let main_v3 : IVec S128x50 1 := cmpi .slt main_arg2 main_v2
  let main_v4 : IVec S128x50 1 := andi main_v1 main_v3
  let main_c_1 : IVec S_ 1 := constantI S_ 1 1#1
  let main_v5 : IVec S_ 1 := (fun x v => Host.reduce IntOp.andi x v reducesTo_S128x50_S_d0_1 h_S_) main_v4 main_c_1
  main_v5
-- ==== Kernel.lean ====
abbrev S128x32768 : Shape := ⟨2, ![128, 32768]⟩
abbrev S128 : Shape := ⟨1, ![128]⟩
abbrev S128x50 : Shape := ⟨2, ![128, 50]⟩
abbrev S128x256x128 : Shape := ⟨3, ![128, 256, 128]⟩
abbrev S128x1x50 : Shape := ⟨3, ![128, 1, 50]⟩
abbrev S128x1x1 : Shape := ⟨3, ![128, 1, 1]⟩
abbrev S128x1x128 : Shape := ⟨3, ![128, 1, 128]⟩
abbrev S1x1x50 : Shape := ⟨3, ![1, 1, 50]⟩
abbrev S1x1x1 : Shape := ⟨3, ![1, 1, 1]⟩
abbrev S1x256x128 : Shape := ⟨3, ![1, 256, 128]⟩
abbrev S1x1x128 : Shape := ⟨3, ![1, 1, 128]⟩
abbrev S256x128 : Shape := ⟨2, ![256, 128]⟩
abbrev S1x128 : Shape := ⟨2, ![1, 128]⟩
abbrev S1 : Shape := ⟨1, ![1]⟩
abbrev S32x4x128 : Shape := ⟨3, ![32, 4, 128]⟩
abbrev S32x4x50 : Shape := ⟨3, ![32, 4, 50]⟩
abbrev S32x4 : Shape := ⟨2, ![32, 4]⟩
abbrev S32x4x51 : Shape := ⟨3, ![32, 4, 51]⟩
abbrev S32x1x1 : Shape := ⟨3, ![32, 1, 1]⟩
abbrev S32x1 : Shape := ⟨2, ![32, 1]⟩
abbrev S32x1x50 : Shape := ⟨3, ![32, 1, 50]⟩
abbrev S32x50 : Shape := ⟨2, ![32, 50]⟩
abbrev S128x51 : Shape := ⟨2, ![128, 51]⟩

abbrev nBuf : Space → Nat
  | .hbm => 17
  | .vmem => 14
  | .smem => 4
  | _ => 0

abbrev bufTy : (tb : Table) → Fin (tcTables nBuf tb) → BufTy
  | .hbm, ⟨0, _⟩ => ⟨S128x32768, .f32⟩
  | .hbm, ⟨1, _⟩ => ⟨S128, .f32⟩
  | .hbm, ⟨2, _⟩ => ⟨S128x50, .i32⟩
  | .hbm, ⟨3, _⟩ => ⟨S128x256x128, .f32⟩
  | .hbm, ⟨4, _⟩ => ⟨S128x1x50, .i32⟩
  | .hbm, ⟨5, _⟩ => ⟨S128x1x1, .f32⟩
  | .hbm, ⟨6, _⟩ => ⟨S128x1x128, .f32⟩
  | .hbm, ⟨7, _⟩ => ⟨S128x1x128, .i32⟩
  | .hbm, ⟨8, _⟩ => ⟨S32x4x128, .f32⟩
  | .hbm, ⟨9, _⟩ => ⟨S32x4x128, .i32⟩
  | .hbm, ⟨10, _⟩ => ⟨S32x4x50, .i32⟩
  | .hbm, ⟨11, _⟩ => ⟨S32x4, .f32⟩
  | .hbm, ⟨12, _⟩ => ⟨S32x4, .i32⟩
  | .hbm, ⟨13, _⟩ => ⟨S32x4x51, .i32⟩
  | .hbm, ⟨14, _⟩ => ⟨S32x4, .f32⟩
  | .hbm, ⟨15, _⟩ => ⟨S128x51, .i32⟩
  | .hbm, ⟨16, _⟩ => ⟨S128, .f32⟩
  | .local _ .vmem, ⟨0, _⟩ => ⟨S1x256x128, .f32⟩
  | .local _ .vmem, ⟨1, _⟩ => ⟨S1x256x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .i32⟩
  | .local _ .vmem, ⟨5, _⟩ => ⟨S1x1x128, .i32⟩
  | .local _ .vmem, ⟨6, _⟩ => ⟨S256x128, .f32⟩
  | .local _ .vmem, ⟨7, _⟩ => ⟨S32x4x128, .f32⟩
  | .local _ .vmem, ⟨8, _⟩ => ⟨S32x4x128, .i32⟩
  | .local _ .vmem, ⟨9, _⟩ => ⟨S32x4x50, .i32⟩
  | .local _ .vmem, ⟨10, _⟩ => ⟨S32x4, .f32⟩
  | .local _ .vmem, ⟨11, _⟩ => ⟨S32x4, .i32⟩
  | .local _ .vmem, ⟨12, _⟩ => ⟨S32x4x51, .i32⟩
  | .local _ .vmem, ⟨13, _⟩ => ⟨S32x4, .f32⟩
  | .local _ .smem, ⟨0, _⟩ => ⟨S1x1x50, .i32⟩
  | .local _ .smem, ⟨1, _⟩ => ⟨S1x1x50, .i32⟩
  | .local _ .smem, ⟨2, _⟩ => ⟨S1x1x1, .f32⟩
  | .local _ .smem, ⟨3, _⟩ => ⟨S1x1x1, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v8 : Ref sig .tc := ⟨.hbm, 15, rfl⟩
abbrev main_v9 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c50_i32 : BitVec 32 := 50#32
  let v6 : BitVec 32 := Scalar.addi c0_i32 c50_i32
  let c1_i32 : BitVec 32 := 1#32
  ⟨c0_i32, v6, c1_i32⟩
def k0_off1 (k0_t1 : Fin k0_t1_loop.trips) : Fin 3 → Nat :=
  let c0_51 : Index := 0#32
  let c0_52 : Index := 0#32
  let c0_i32 : BitVec 32 := 0#32
  let c1_i32 : BitVec 32 := 1#32
  let arg7 : BitVec 32 := Scf.iv c0_i32 c1_i32 k0_t1
  let v208 : Index := Scalar.indexCast arg7
  ![0, 0, v208.toNat]
def k0_off2 (v209 : BitVec 32) : Fin 3 → Nat :=
  let c0_54 : Index := 0#32
  let c7_i32_53 : BitVec 32 := 7#32
  let v210 : BitVec 32 := Scalar.shrsi v209 c7_i32_53
  let v212 : Index := Scalar.indexCast v210
  let c0_55 : Index := 0#32
  ![0, v212.toNat, 0]

def k0_off3 (v209 : BitVec 32) : Fin 2 → Nat :=
  let c7_i32_53 : BitVec 32 := 7#32
  let v210 : BitVec 32 := Scalar.shrsi v209 c7_i32_53
  let v215 : Index := Scalar.indexCast v210
  let c0_56 : Index := 0#32
  ![v215.toNat, 0]

def k0_chk1 (v209 : BitVec 32) : Prop :=
  (∀ a, (k0_off2 v209) a + S1x1x128.size a ≤ S1x256x128.size a) ∧
  (∀ a, (k0_off3 v209) a + S1x128.size a ≤ S256x128.size a)
theorem k0_off2_inb : ∀ (v209 : BitVec 32) (k0_hw1 : k0_chk1 v209), ∀ a, (k0_off2 v209) a + S1x1x128.size a ≤ S1x256x128.size a := fun v209 k0_hw1 => k0_hw1.1
theorem k0_off3_inb : ∀ (v209 : BitVec 32) (k0_hw1 : k0_chk1 v209), ∀ a, (k0_off3 v209) a + S1x128.size a ≤ S256x128.size a := fun v209 k0_hw1 => k0_hw1.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x50 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S32x4x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x4x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x4x50 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S32x4 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x4x51 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S32x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== KernelIdeal.lean ====
variable {F : FTy → Type} [FloatOps F] [Named F]
def κ : String → Option EReal := fun
  | "inv_rep" => some (((5033165 / 4194304)⁻¹ : ℝ) : EReal)
  | _ => none
-- ==== ReferenceIdeal.lean ====
abbrev S128x32768 : Shape := ⟨2, ![128, 32768]⟩
abbrev S128 : Shape := ⟨1, ![128]⟩
abbrev S128x50 : Shape := ⟨2, ![128, 50]⟩
abbrev S_ : Shape := ⟨0, ![]⟩
abbrev S128x50x1 : Shape := ⟨3, ![128, 50, 1]⟩
abbrev S128x1 : Shape := ⟨2, ![128, 1]⟩
abbrev S128x50x2 : Shape := ⟨3, ![128, 50, 2]⟩
abbrev S32x131072 : Shape := ⟨2, ![32, 131072]⟩
abbrev S32x8 : Shape := ⟨2, ![32, 8]⟩
abbrev S32x4 : Shape := ⟨2, ![32, 4]⟩
abbrev S32x4x1 : Shape := ⟨3, ![32, 4, 1]⟩
abbrev S32 : Shape := ⟨1, ![32]⟩
abbrev S32x1 : Shape := ⟨2, ![32, 1]⟩
abbrev S128x51 : Shape := ⟨2, ![128, 51]⟩

abbrev nBuf : Space → Nat
  | .hbm => 174
  | .vmem => 0
  | .smem => 0
  | _ => 0

abbrev hbmTy0_0 (i : Nat) : BufTy := match i % 128 with
  | 0 => ⟨S128x32768, .f32⟩
  | 1 => ⟨S128, .f32⟩
  | 2 => ⟨S128x50, .i32⟩
  | 3 => ⟨S_, .i32⟩
  | 4 => ⟨S128x50, .i32⟩
  | 5 => ⟨S128x50, .i1⟩
  | 6 => ⟨S_, .i32⟩
  | 7 => ⟨S128x50, .i32⟩
  | 8 => ⟨S128x50, .i32⟩
  | 9 => ⟨S128x50, .i32⟩
  | 10 => ⟨S128x50x1, .i32⟩
  | 11 => ⟨S128x50, .f32⟩
  | 12 => ⟨S_, .f32⟩
  | 13 => ⟨S128x50, .f32⟩
  | 14 => ⟨S128x50, .i1⟩
  | 15 => ⟨S128x50, .f32⟩
  | 16 => ⟨S_, .f32⟩
  | 17 => ⟨S128x50, .f32⟩
  | 18 => ⟨S128x50, .f32⟩
  | 19 => ⟨S_, .f32⟩
  | 20 => ⟨S128x50, .f32⟩
  | 21 => ⟨S128x50, .f32⟩
  | 22 => ⟨S128x50, .f32⟩
  | 23 => ⟨S_, .f32⟩
  | 24 => ⟨S128x50, .f32⟩
  | 25 => ⟨S128x50, .f32⟩
  | 26 => ⟨S128x50, .f32⟩
  | 27 => ⟨S128x50, .f32⟩
  | 28 => ⟨S128, .i32⟩
  | 29 => ⟨S128x1, .i32⟩
  | 30 => ⟨S_, .i32⟩
  | 31 => ⟨S128x1, .i32⟩
  | 32 => ⟨S128x1, .i1⟩
  | 33 => ⟨S_, .i32⟩
  | 34 => ⟨S128x1, .i32⟩
  | 35 => ⟨S128x1, .i32⟩
  | 36 => ⟨S128x1, .i32⟩
  | 37 => ⟨S_, .i32⟩
  | 38 => ⟨S128x50, .i32⟩
  | 39 => ⟨S128x50, .i1⟩
  | 40 => ⟨S_, .i32⟩
  | 41 => ⟨S128x50, .i32⟩
  | 42 => ⟨S128x50, .i32⟩
  | 43 => ⟨S128x50, .i32⟩
  | 44 => ⟨S128x50, .i32⟩
  | 45 => ⟨S128x50x1, .i32⟩
  | 46 => ⟨S128x50x1, .i32⟩
  | 47 => ⟨S128x50x2, .i32⟩
  | 48 => ⟨S128x32768, .f32⟩
  | 49 => ⟨S_, .f32⟩
  | 50 => ⟨S128, .f32⟩
  | 51 => ⟨S_, .f32⟩
  | 52 => ⟨S128, .f32⟩
  | 53 => ⟨S128, .f32⟩
  | 54 => ⟨S128x1, .f32⟩
  | 55 => ⟨S128x32768, .f32⟩
  | 56 => ⟨S128x32768, .f32⟩
  | 57 => ⟨S128x32768, .f32⟩
  | 58 => ⟨S_, .f32⟩
  | 59 => ⟨S128, .f32⟩
  | 60 => ⟨S128x1, .f32⟩
  | 61 => ⟨S128x1, .f32⟩
  | 62 => ⟨S128x32768, .f32⟩
  | 63 => ⟨S128x32768, .f32⟩
  | 64 => ⟨S128x1, .f32⟩
  | 65 => ⟨S128x32768, .f32⟩
  | 66 => ⟨S128x32768, .f32⟩
  | 67 => ⟨S32x131072, .f32⟩
  | 68 => ⟨S32x8, .f32⟩
  | 69 => ⟨S32x8, .i32⟩
  | 70 => ⟨S_, .i32⟩
  | 71 => ⟨S_, .i32⟩
  | 72 => ⟨S32x8, .i32⟩
  | 73 => ⟨S32x8, .i32⟩
  | 74 => ⟨S32x8, .i32⟩
  | 75 => ⟨S_, .i32⟩
  | 76 => ⟨S32x8, .i32⟩
  | 77 => ⟨S32x8, .i1⟩
  | 78 => ⟨S32x8, .i32⟩
  | 79 => ⟨S32x8, .i32⟩
  | 80 => ⟨S_, .i32⟩
  | 81 => ⟨S32x8, .i32⟩
  | 82 => ⟨S32x8, .i1⟩
  | 83 => ⟨S32x8, .i1⟩
  | 84 => ⟨S_, .i32⟩
  | 85 => ⟨S32x8, .i32⟩
  | 86 => ⟨S32x8, .i32⟩
  | 87 => ⟨S32x8, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S32x8, .i32⟩
  | 95 => ⟨S32x8, .i32⟩
  | 96 => ⟨S_, .i32⟩
  | 97 => ⟨S32x8, .i32⟩
  | 98 => ⟨S32x8, .i1⟩
  | 99 => ⟨S_, .i32⟩
  | 100 => ⟨S32x8, .i32⟩
  | 101 => ⟨S32x8, .i1⟩
  | 102 => ⟨S_, .i32⟩
  | 103 => ⟨S_, .i1⟩
  | 104 => ⟨S32x8, .i1⟩
  | 105 => ⟨S32x8, .i1⟩
  | 106 => ⟨S32x8, .i1⟩
  | 107 => ⟨S32x8, .i32⟩
  | 108 => ⟨S32x8, .i32⟩
  | 109 => ⟨S32x8, .i32⟩
  | 110 => ⟨S_, .i32⟩
  | 111 => ⟨S32x8, .i32⟩
  | 112 => ⟨S32x8, .i1⟩
  | 113 => ⟨S32x8, .i32⟩
  | 114 => ⟨S_, .i32⟩
  | 115 => ⟨S_, .i32⟩
  | 116 => ⟨S32x8, .i32⟩
  | 117 => ⟨S_, .i32⟩
  | 118 => ⟨S32x8, .i32⟩
  | 119 => ⟨S32x8, .i1⟩
  | 120 => ⟨S32x8, .i1⟩
  | 121 => ⟨S32x8, .i1⟩
  | 122 => ⟨S32x8, .i32⟩
  | 123 => ⟨S32x8, .i32⟩
  | 124 => ⟨S32x8, .i32⟩
  | 125 => ⟨S32x8, .i32⟩
  | 126 => ⟨S32x4, .i32⟩
  | 127 => ⟨S_, .i32⟩
  | _ => ⟨S128x32768, .f32⟩

abbrev hbmTy0_1 (i : Nat) : BufTy := match i % 128 with
  | 0 => ⟨S32x4, .i32⟩
  | 1 => ⟨S32x4, .i1⟩
  | 2 => ⟨S_, .i32⟩
  | 3 => ⟨S32x4, .i32⟩
  | 4 => ⟨S32x4, .i32⟩
  | 5 => ⟨S32x4, .i32⟩
  | 6 => ⟨S32x4x1, .i32⟩
  | 7 => ⟨S32x4, .i32⟩
  | 8 => ⟨S_, .i32⟩
  | 9 => ⟨S32x4, .i32⟩
  | 10 => ⟨S32x4, .i1⟩
  | 11 => ⟨S_, .i32⟩
  | 12 => ⟨S32x4, .i32⟩
  | 13 => ⟨S32x4, .i32⟩
  | 14 => ⟨S32x4, .i32⟩
  | 15 => ⟨S32x4x1, .i32⟩
  | 16 => ⟨S32x4, .i32⟩
  | 17 => ⟨S_, .i32⟩
  | 18 => ⟨S32x4, .i32⟩
  | 19 => ⟨S32x4, .i1⟩
  | 20 => ⟨S_, .i32⟩
  | 21 => ⟨S32x4, .i32⟩
  | 22 => ⟨S32x4, .i32⟩
  | 23 => ⟨S32x4, .i32⟩
  | 24 => ⟨S32x4x1, .i32⟩
  | 25 => ⟨S32x4, .f32⟩
  | 26 => ⟨S128, .f32⟩
  | 27 => ⟨S32, .i32⟩
  | 28 => ⟨S32x1, .i32⟩
  | 29 => ⟨S_, .i32⟩
  | 30 => ⟨S32x1, .i32⟩
  | 31 => ⟨S32x1, .i32⟩
  | 32 => ⟨S32x4, .i32⟩
  | 33 => ⟨S32x4, .i32⟩
  | 34 => ⟨S128, .i32⟩
  | 35 => ⟨S_, .i32⟩
  | 36 => ⟨S128, .i32⟩
  | 37 => ⟨S128, .i1⟩
  | 38 => ⟨S_, .i32⟩
  | 39 => ⟨S128, .i32⟩
  | 40 => ⟨S128, .i32⟩
  | 41 => ⟨S128, .i32⟩
  | 42 => ⟨S128x1, .i32⟩
  | 43 => ⟨S128x50, .i32⟩
  | 44 => ⟨S128x1, .i32⟩
  | 45 => ⟨S128x51, .i32⟩
  | _ => ⟨S128x32768, .f32⟩

abbrev hbmTy (i : Nat) : BufTy := match i / 128 with
  | 0 => hbmTy0_0 i
  | 1 => hbmTy0_1 i
  | _ => ⟨S128x32768, .f32⟩

abbrev bufTy : (tb : Table) → Fin (tcTables nBuf tb) → BufTy
  | .hbm, ⟨i, _⟩ => hbmTy i
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_cst : Ref sig .tc := ⟨.hbm, 49, rfl⟩
abbrev main_call1_v0 : Ref sig .tc := ⟨.hbm, 50, rfl⟩
abbrev main_call1_cst_0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_1 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_values : Ref sig .tc := ⟨.hbm, 68, rfl⟩
abbrev main_indices : Ref sig .tc := ⟨.hbm, 69, rfl⟩
abbrev main_c_6 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v35 : Ref sig .tc := ⟨.hbm, 87, rfl⟩
abbrev main_c_7 : Ref sig .tc := ⟨.hbm, 88, rfl⟩
abbrev main_call3_v0 : Ref sig .tc := ⟨.hbm, 89, rfl⟩
abbrev main_call3_c : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_1 : Ref sig .tc := ⟨.hbm, 96, rfl⟩
abbrev main_call3_v5 : Ref sig .tc := ⟨.hbm, 97, rfl⟩
abbrev main_call3_v6 : Ref sig .tc := ⟨.hbm, 98, rfl⟩
abbrev main_call3_c_2 : Ref sig .tc := ⟨.hbm, 99, rfl⟩
abbrev main_call3_v7 : Ref sig .tc := ⟨.hbm, 100, rfl⟩
abbrev main_call3_v8 : Ref sig .tc := ⟨.hbm, 101, rfl⟩
abbrev main_call3_c_3 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_v36 : Ref sig .tc := ⟨.hbm, 109, rfl⟩
abbrev main_c_8 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_call4_call0_c : Ref sig .tc := ⟨.hbm, 114, rfl⟩
abbrev main_call4_call0_v0 : Ref sig .tc := ⟨.hbm, 115, rfl⟩
abbrev main_v40 : Ref sig .tc := ⟨.hbm, 116, rfl⟩
abbrev main_c_9 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_call5_v0 : Ref sig .tc := ⟨.hbm, 123, rfl⟩
abbrev main_call5_v1_0 : Ref sig .tc := ⟨.hbm, 124, rfl⟩
abbrev main_v46 : Ref sig .tc := ⟨.hbm, 125, rfl⟩
abbrev main_v47 : Ref sig .tc := ⟨.hbm, 126, rfl⟩
abbrev main_call6_c : Ref sig .tc := ⟨.hbm, 127, rfl⟩
abbrev main_call6_v0 : Ref sig .tc := ⟨.hbm, 128, rfl⟩
abbrev main_call6_v1 : Ref sig .tc := ⟨.hbm, 129, rfl⟩
abbrev main_call6_c_0 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_call6_v5 : Ref sig .tc := ⟨.hbm, 134, rfl⟩
abbrev main_v48 : Ref sig .tc := ⟨.hbm, 135, rfl⟩
abbrev main_call7_c : Ref sig .tc := ⟨.hbm, 136, rfl⟩
abbrev main_call7_v0 : Ref sig .tc := ⟨.hbm, 137, rfl⟩
abbrev main_call7_v1 : Ref sig .tc := ⟨.hbm, 138, rfl⟩
abbrev main_call7_c_0 : Ref sig .tc := ⟨.hbm, 139, rfl⟩
abbrev main_call7_v2 : Ref sig .tc := ⟨.hbm, 140, rfl⟩
abbrev main_call7_v3 : Ref sig .tc := ⟨.hbm, 141, rfl⟩
abbrev main_call7_v4 : Ref sig .tc := ⟨.hbm, 142, rfl⟩
abbrev main_call7_v5 : Ref sig .tc := ⟨.hbm, 143, rfl⟩
abbrev main_v49 : Ref sig .tc := ⟨.hbm, 144, rfl⟩
abbrev main_call8_c : Ref sig .tc := ⟨.hbm, 145, rfl⟩
abbrev main_call8_v0 : Ref sig .tc := ⟨.hbm, 146, rfl⟩
abbrev main_call8_v1 : Ref sig .tc := ⟨.hbm, 147, rfl⟩
abbrev main_call8_c_0 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_call8_v5 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_c_10 : Ref sig .tc := ⟨.hbm, 157, rfl⟩
abbrev main_v54 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_c_11 : Ref sig .tc := ⟨.hbm, 163, rfl⟩
abbrev main_v59 : Ref sig .tc := ⟨.hbm, 164, rfl⟩
abbrev main_v60 : Ref sig .tc := ⟨.hbm, 165, rfl⟩
abbrev main_c_12 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩

abbrev nD : Nat := 1
abbrev τ : Topo := Topo.v7x

variable {F : FTy → Type} [FloatOps F]
-- ==== Proof.MergeProg.lean ====
/- The merge kernel's body, written over a list of candidates: 64 loads gather the 32 candidates of every batch, eight
   rounds take the best one out, four slots keep the first four that are not the end token, and the slots' columns are
   stored. The printed body is this program (`merge_eq`), its counted python loops unrolled. -/
module

public import proofs.«01_k».proof.KernelIdeal
public import Idealize.ShloMosaic.Lib.Tactic

@[expose] public section

noncomputable section

namespace Cert.Proof.Merge

open Idealize.ShloMosaic Idealize.SL.Sem
open Cert.KernelIdeal

variable {F : FTy → Type} [FloatOps F] [Named F] [Cert.KernelIdeal.Facts]

open Cert.KernelIdeal.Facts₀ Cert.KernelIdeal.Facts

/-- A column of 32-bit words / of floats, one entry per batch. -/
abbrev IC := IVec S32x1 32
abbrev FC (F : FTy → Type) := FVec F S32x1 .f32

/-- One candidate of every batch: its score, its flat index, its token and its beam. -/
structure Cand (F : FTy → Type) where
  s : FC F
  f : IC
  t : IC
  b : IC

def word (w : BitVec 32) : IC := broadcast S32x1 w

/-- The candidate made of the loaded score and token columns of beam `w`. -/
def cand (w : ℕ) (v : Vec F S32x1x1 .f32) (t : Vec F S32x1x1 .i32) : Cand F where
  s := shapeCast S32x1 v shapeCasts_S32x1x1_S32x1
  f := addi (shapeCast S32x1 t shapeCasts_S32x1x1_S32x1) (broadcast S32x1 (BitVec.ofNat 32 (w * 32768)))
  t := shapeCast S32x1 t shapeCasts_S32x1x1_S32x1
  b := broadcast S32x1 (BitVec.ofNat 32 w)

/-- The best score of the candidates, from `m` on. -/
def best (m : FC F) : List (Cand F) → FC F
  | [] => m
  | c :: l => best (maximumf m c.s) l

/-- The least flat index at score `m`, from `a` on. -/
def least (m : FC F) (a : IC) : List (Cand F) → IC
  | [] => a
  | c :: l => least m (minsi a (select (cmpf .oeq c.s m) c.f (broadcast S32x1 1073741824#32))) l

/-- The token of the candidate at flat index `i`, `a` if there is none. -/
def tokenAt (i a : IC) : List (Cand F) → IC
  | [] => a
  | c :: l => tokenAt i (select (cmpi .eq c.f i) c.t a) l

/-- The beam of the candidate at flat index `i`, `a` if there is none. -/
def beamAt (i a : IC) : List (Cand F) → IC
  | [] => a
  | c :: l => beamAt i (select (cmpi .eq c.f i) c.b a) l

/-- The candidates with the one at flat index `i` taken out: its score is minus infinity. -/
def drop (i : IC) : List (Cand F) → List (Cand F)
  | [] => []
  | c :: l => { c with s := select (cmpi .eq c.f i) (broadcast S32x1 (Scalar.ofBits .f32 0xFF800000#32)) c.s } :: drop i l

/-- A taken candidate, or what a slot holds. -/
structure Pick (F : FTy → Type) where
  s : FC F
  t : IC
  b : IC

def bestOf : List (Cand F) → FC F
  | [] => broadcast S32x1 (Scalar.ofBits .f32 0x00000000#32)
  | c :: l => best c.s l

def leastOf (l : List (Cand F)) (m : FC F) : IC := least m (broadcast S32x1 1073741824#32) l

/-- The candidate the next round takes. -/
def pick (l : List (Cand F)) : Pick F where
  s := bestOf l
  t := tokenAt (leastOf l (bestOf l)) (broadcast S32x1 0#32) l
  b := beamAt (leastOf l (bestOf l)) (broadcast S32x1 0#32) l

/-- `n` rounds. -/
def rounds : ℕ → List (Cand F) → List (Pick F)
  | 0, _ => []
  | n + 1, l => pick l :: rounds n (drop (leastOf l (bestOf l)) l)

/-- The slots from slot `i` on, a pick put where `ok` holds and the count is the slot's number. -/
def put (ok : IVec S32x1 1) (cnt : IC) (p : Pick F) : ℕ → List (Pick F) → List (Pick F)
  | _, [] => []
  | i, o :: l =>
    { s := select (andi ok (cmpi .eq cnt (broadcast S32x1 (BitVec.ofNat 32 i)))) p.s o.s
      t := select (andi ok (cmpi .eq cnt (broadcast S32x1 (BitVec.ofNat 32 i)))) p.t o.t
      b := select (andi ok (cmpi .eq cnt (broadcast S32x1 (BitVec.ofNat 32 i)))) p.b o.b } :: put ok cnt p (i + 1) l

/-- A pick is kept if it is not the end token. -/
def kept (p : Pick F) : IVec S32x1 1 := cmpi .ne p.t (broadcast S32x1 2#32)

/-- The slots after the picks `l`, `cnt` slots being filled before them. -/
def fill (cnt : IC) (o : List (Pick F)) : List (Pick F) → List (Pick F)
  | [] => o
  | p :: l => fill (addi cnt (extui 32 (kept p) natLt_1_32)) (put (kept p) cnt p 0 o) l

def emptySlot : Pick F where
  s := broadcast S32x1 (Scalar.ofBits .f32 0x00000000#32)
  t := broadcast S32x1 0#32
  b := broadcast S32x1 0#32

def slots (l : List (Cand F)) : List (Pick F) :=
  fill (broadcast S32x1 0#32) [emptySlot, emptySlot, emptySlot, emptySlot] (rounds 8 l)

/-- The program type of the body. -/
abbrev M (F : FTy → Type) := Prog (TpuEff nD τ sig (Elt F) Λ₀ .tc)

variable (arg0 : Memref sig .tc .vmem S32x4x128 .f32) (arg1 : Memref sig .tc .vmem S32x4x128 .i32)
  (arg2 : Memref sig .tc .vmem S32x4x50 .i32) (arg3 : Memref sig .tc .vmem S32x4 .f32)
  (arg4 : Memref sig .tc .vmem S32x4 .i32) (arg5 : Memref sig .tc .vmem S32x4x51 .i32)
  (arg6 : Memref sig .tc .vmem S32x4 .f32)

theorem inb_cand (w : Fin 4) (k : Fin 8) :
    ∀ a, (![0, w.1, k.1] : Fin 3 → ℕ) a + S32x1x1.size a ≤ S32x4x128.size a := by
  intro a
  have := w.2; have := k.2
  fin_cases a <;> simp [S32x1x1, S32x4x128] <;> omega

theorem inb_col (i : Fin 4) : ∀ a, (![0, i.1] : Fin 2 → ℕ) a + S32x1.size a ≤ S32x4.size a := by
  intro a
  have := i.2
  fin_cases a <;> simp [S32x1, S32x4] <;> omega

theorem inb_hist (w : Fin 4) : ∀ a, (![0, w.1, 0] : Fin 3 → ℕ) a + S32x1x50.size a ≤ S32x4x50.size a := by
  intro a
  have := w.2
  fin_cases a <;> simp [S32x1x50, S32x4x50] <;> omega

theorem inb_ids (i : Fin 4) : ∀ a, (![0, i.1, 0] : Fin 3 → ℕ) a + S32x1x50.size a ≤ S32x4x51.size a := by
  intro a
  have := i.2
  fin_cases a <;> simp [S32x1x50, S32x4x51] <;> omega

theorem inb_last (i : Fin 4) : ∀ a, (![0, i.1, 50] : Fin 3 → ℕ) a + S32x1x1.size a ≤ S32x4x51.size a := by
  intro a
  have := i.2
  fin_cases a <;> simp [S32x1x1, S32x4x51] <;> omega

/-- The candidates of the list's places loaded, then `k` at them. -/
def gather : List (Fin 4 × Fin 8) → (List (Cand F) → M F PUnit) → M F PUnit
  | [], k => k []
  | (w, j) :: l, k => do
    let v : Vec F S32x1x1 .f32 ← Prog.lift (.load arg0
      (Rect.unit (s := S32x4x128) ![0, w.1, j.1] S32x1x1.size (inb_cand w j)).toLoadRect (View.loadsAt_vmem h_S32x1x1))
    let t : Vec F S32x1x1 .i32 ← Prog.lift (.load arg1
      (Rect.unit (s := S32x4x128) ![0, w.1, j.1] S32x1x1.size (inb_cand w j)).toLoadRect (View.loadsAt_vmem h_S32x1x1))
    gather l fun cs => k (cand w.1 v t :: cs)

/-- The places of the 32 candidates: beam by beam. -/
def places : List (Fin 4 × Fin 8) :=
  [(0, 0), (0, 1), (0, 2), (0, 3), (0, 4), (0, 5), (0, 6), (0, 7), (1, 0), (1, 1), (1, 2), (1, 3), (1, 4), (1, 5), (1, 6), (1, 7),
   (2, 0), (2, 1), (2, 2), (2, 3), (2, 4), (2, 5), (2, 6), (2, 7), (3, 0), (3, 1), (3, 2), (3, 3), (3, 4), (3, 5), (3, 6), (3, 7)]

/-- The old tokens `x` of beam `w` where the pick's beam is `w`, else `h`. -/
def choose (b : IC) (w : ℕ) (x : Vec F S32x1x50 .i32) (h : IVec S32x50 32) : IVec S32x50 32 :=
  select (broadcastTo S32x50 (shapeCast S32x1 (cmpi .eq b (broadcast S32x1 (BitVec.ofNat 32 w))) shapeCasts_S32x1_S32x1)
    broadcasts_S32x1_S32x50) (shapeCast S32x50 x shapeCasts_S32x1x50_S32x50) h

/-- The old tokens of the pick's beam. -/
def history (b : IC) (x0 x1 x2 x3 : Vec F S32x1x50 .i32) : IVec S32x50 32 :=
  choose (F := F) b 3 x3 (choose (F := F) b 2 x2 (choose (F := F) b 1 x1 (shapeCast S32x50 x0 shapeCasts_S32x1x50_S32x50)))

/-- Slot `i` stored: its score in two results, its token, the old tokens of its beam and the token after them. -/
def storeSlot (i : Fin 4) (p : Pick F) : M F PUnit := do
  let _ : Vec F S32x1 .f32 ← Prog.lift (.load arg3 (Rect.unit (s := S32x4) ![0, i.1] S32x1.size (inb_col i)).toLoadRect (View.loadsAt_vmem h_S32x1))
  Prog.lift (.store arg3 (Rect.unit (s := S32x4) ![0, i.1] S32x1.size (inb_col i)) p.s Finset.univ (View.stores_vmem_bits_univ h_S32x1 rfl) (.inl rfl))
  let _ : Vec F S32x1 .i32 ← Prog.lift (.load arg4 (Rect.unit (s := S32x4) ![0, i.1] S32x1.size (inb_col i)).toLoadRect (View.loadsAt_vmem h_S32x1))
  Prog.lift (.store arg4 (Rect.unit (s := S32x4) ![0, i.1] S32x1.size (inb_col i)) p.t Finset.univ (View.stores_vmem_bits_univ h_S32x1 rfl) (.inl rfl))
  let _ : Vec F S32x1 .f32 ← Prog.lift (.load arg6 (Rect.unit (s := S32x4) ![0, i.1] S32x1.size (inb_col i)).toLoadRect (View.loadsAt_vmem h_S32x1))
  Prog.lift (.store arg6 (Rect.unit (s := S32x4) ![0, i.1] S32x1.size (inb_col i)) p.s Finset.univ (View.stores_vmem_bits_univ h_S32x1 rfl) (.inl rfl))
  let x0 : Vec F S32x1x50 .i32 ← Prog.lift (.load arg2 (Rect.unit (s := S32x4x50) ![0, (0 : Fin 4).1, 0] S32x1x50.size (inb_hist 0)).toLoadRect (View.loadsAt_vmem h_S32x1x50))
  let x1 : Vec F S32x1x50 .i32 ← Prog.lift (.load arg2 (Rect.unit (s := S32x4x50) ![0, (1 : Fin 4).1, 0] S32x1x50.size (inb_hist 1)).toLoadRect (View.loadsAt_vmem h_S32x1x50))
  let x2 : Vec F S32x1x50 .i32 ← Prog.lift (.load arg2 (Rect.unit (s := S32x4x50) ![0, (2 : Fin 4).1, 0] S32x1x50.size (inb_hist 2)).toLoadRect (View.loadsAt_vmem h_S32x1x50))
  let x3 : Vec F S32x1x50 .i32 ← Prog.lift (.load arg2 (Rect.unit (s := S32x4x50) ![0, (3 : Fin 4).1, 0] S32x1x50.size (inb_hist 3)).toLoadRect (View.loadsAt_vmem h_S32x1x50))
  let _ : Vec F S32x1x50 .i32 ← Prog.lift (.load arg5 (Rect.unit (s := S32x4x51) ![0, i.1, 0] S32x1x50.size (inb_ids i)).toLoadRect (View.loadsAt_vmem h_S32x1x50))
  Prog.lift (.store arg5 (Rect.unit (s := S32x4x51) ![0, i.1, 0] S32x1x50.size (inb_ids i)) (shapeCast S32x1x50 (history (F := F) p.b x0 x1 x2 x3) shapeCasts_S32x50_S32x1x50) Finset.univ (View.stores_vmem_bits_univ h_S32x1x50 rfl) (.inl rfl))
  let _ : Vec F S32x1x1 .i32 ← Prog.lift (.load arg5 (Rect.unit (s := S32x4x51) ![0, i.1, 50] S32x1x1.size (inb_last i)).toLoadRect (View.loadsAt_vmem h_S32x1x1))
  Prog.lift (.store arg5 (Rect.unit (s := S32x4x51) ![0, i.1, 50] S32x1x1.size (inb_last i)) (shapeCast S32x1x1 p.t shapeCasts_S32x1_S32x1x1) Finset.univ (View.stores_vmem_bits_univ h_S32x1x1 rfl) (.inl rfl))

/-- The slots from `i` on stored. -/
def storeSlots (o : List (Pick F)) : M F PUnit := do
  storeSlot arg2 arg3 arg4 arg5 arg6 0 (o.getD 0 emptySlot)
  storeSlot arg2 arg3 arg4 arg5 arg6 1 (o.getD 1 emptySlot)
  storeSlot arg2 arg3 arg4 arg5 arg6 2 (o.getD 2 emptySlot)
  storeSlot arg2 arg3 arg4 arg5 arg6 3 (o.getD 3 emptySlot)

def mergeProg : M F PUnit :=
  gather arg0 arg1 places fun l => storeSlots arg2 arg3 arg4 arg5 arg6 (slots l)

set_option maxRecDepth 1000000 in
/-- The printed body is the program over the lists. -/
theorem merge_eq (h0 : arg0.IsWhole) (h1 : arg1.IsWhole) (h2 : arg2.IsWhole) (h3 : arg3.IsWhole) (h4 : arg4.IsWhole)
    (h5 : arg5.IsWhole) (h6 : arg6.IsWhole) :
    cc1__merge_kernel (F := F) arg0 h0 arg1 h1 arg2 h2 arg3 h3 arg4 h4 arg5 h5 arg6 h6
      = mergeProg arg0 arg1 arg2 arg3 arg4 arg5 arg6 := by
  sl_kernel_rfl

end Cert.Proof.Merge
-- ==== Proof.RowProg.lean ====
/- The row kernel's body, written over structured values: the row copied, the 50 tokens' penalties applied, the
   log-softmax with the beam's score added, eight rounds that take the best entry out, and the two stores. The printed
   body is this program (`row_eq`), its python loop over the rounds unrolled. -/
module

public import proofs.«01_k».proof.KernelIdeal
public import Idealize.ShloMosaic.Lib.Tactic

@[expose] public section

noncomputable section

namespace Cert.Proof.Row

open Idealize.ShloMosaic Idealize.SL.Sem
open Cert.KernelIdeal

variable {F : FTy → Type} [FloatOps F] [Named F] [Cert.KernelIdeal.Facts]

open Cert.KernelIdeal.Facts₀ Cert.KernelIdeal.Facts

/-- A row of the scores, and its 32-bit words. -/
abbrev RF (F : FTy → Type) := FVec F S256x128 .f32
abbrev RI := IVec S256x128 32

/-- The flat index of every entry. -/
def flat : RI :=
  addi (muli (iota .tc S256x128 32 [0] iota_S256x128_d0_w32) (broadcast S256x128 128#32))
    (iota .tc S256x128 32 [1] iota_S256x128_d1_w32)

/-- The lane of every entry of a 128-vector. -/
def lane : IVec S1x128 32 := iota .tc S1x128 32 [1] iota_S1x128_d1_w32

/-- The row's greatest entry. -/
def maxOf (y : RF F) : F .f32 :=
  extractAt ![0, 0, 0] (shapeCast S1x1x1 (multiReduction .maximumf [1, 2] S1 (shapeCast S1x256x128 y shapeCasts_S256x128_S1x256x128)
    0xFF800000#32 reduces_S1x256x128_S1 (.inl rfl) rfl) shapeCasts_S1_S1x1x1) inpos_S1x1x1_p0_0_0

/-- The row's sum. -/
def sumOf (y : RF F) : F .f32 :=
  extractAt ![0, 0, 0] (shapeCast S1x1x1 (multiReduction .add [1, 2] S1 (shapeCast S1x256x128 y shapeCasts_S256x128_S1x256x128)
    0x00000000#32 reduces_S1x256x128_S1 (.inl rfl) rfl) shapeCasts_S1_S1x1x1) inpos_S1x1x1_p0_0_0

/-- The least flat index whose entry is `m`. -/
def firstAt (y : RF F) (m : F .f32) : BitVec 32 :=
  extractAt ![0, 0, 0] (shapeCast S1x1x1 (multiReductionI .minsi [1, 2] S1
    (shapeCast S1x256x128 (select (cmpf .oeq y (broadcast S256x128 m)) flat (broadcast S256x128 1073741824#32))
      shapeCasts_S256x128_S1x256x128) 2147483647#32 reduces_S1x256x128_S1 rfl) shapeCasts_S1_S1x1x1) inpos_S1x1x1_p0_0_0

/-- The row with the entry at flat index `p` taken out. -/
def takeOut (y : RF F) (p : BitVec 32) : RF F :=
  select (cmpi .eq flat (broadcast S256x128 p)) (broadcast S256x128 (Scalar.ofBits .f32 0xFF800000#32)) y

/-- The values and the places found so far, lane by lane, and the row without them. -/
structure St (F : FTy → Type) where
  v : FVec F S1x128 .f32
  p : IVec S1x128 32
  y : RF F

/-- Round `k`: the best entry is written to lane `k` and taken out. -/
def roundOf (k : ℕ) (s : St F) : St F where
  v := select (cmpi .eq lane (broadcast S1x128 (BitVec.ofNat 32 k))) (broadcast S1x128 (maxOf s.y)) s.v
  p := select (cmpi .eq lane (broadcast S1x128 (BitVec.ofNat 32 k))) (broadcast S1x128 (firstAt s.y (maxOf s.y))) s.p
  y := takeOut s.y (firstAt s.y (maxOf s.y))

/-- The first `n` rounds. -/
def roundsOf (y : RF F) : ℕ → St F
  | 0 => ⟨broadcast S1x128 (Scalar.ofBits .f32 0x00000000#32), broadcast S1x128 0#32, y⟩
  | n + 1 => roundOf n (roundsOf y n)

/-- The log-softmax of the penalised row, with the beam's score `b` added. -/
def logp (x : RF F) (b : F .f32) : RF F :=
  addf (subf (subf x (broadcast S256x128 (maxOf x)))
    (broadcast S256x128 (Scalar.log (sumOf (exp (subf x (broadcast S256x128 (maxOf x))))))))
    (broadcast S256x128 b)

/-- The penalised entries of 128 original ones. -/
def penalty (x : FVec F S1x128 .f32) : FVec F S1x128 .f32 :=
  select (cmpf .olt x (broadcast S1x128 (Scalar.ofBits .f32 0x00000000#32)))
    (mulf x (broadcast S1x128 (Scalar.ofBits .f32 0x3F99999A#32)))
    (mulf x (broadcast S1x128 (Named.named κ "inv_rep" 0x3F555555#32)))

/-- One token's penalty: lane `t % 128` of the 128 entries that hold token `t`. -/
def penalised (t : BitVec 32) (orig : Vec F S1x1x128 .f32) (cur : Vec F S1x128 .f32) : FVec F S1x128 .f32 :=
  shapeCast S1x128 (select (cmpi .eq lane (broadcast S1x128 (Scalar.andi t 127#32)))
    (penalty (shapeCast S1x128 orig shapeCasts_S1x1x128_S1x128)) cur) shapeCasts_S1x128_S1x128

abbrev M (F : FTy → Type) := Prog (TpuEff nD τ sig (Elt F) Λ₀ .tc)

variable (arg1 : Memref sig .tc .smem S1x1x50 .i32) (arg2 : Memref sig .tc .smem S1x1x1 .f32)
  (arg3 : Memref sig .tc .vmem S1x256x128 .f32) (arg4 : Memref sig .tc .vmem S1x1x128 .f32)
  (arg5 : Memref sig .tc .vmem S1x1x128 .i32) (arg6 : Memref sig .tc .vmem S256x128 .f32)

/-- One trip of the token loop. -/
def trip (j : Fin k0_t1_loop.trips) (_ : PUnit) : M F PUnit := do
  let t : Elt F .i32 ← smemLoad arg1 (Rect.unit (s := S1x1x50) (k0_off1 j) S1x1x1.size (k0_off1_inb j)) numel1_S1x1x1 rfl
  have hw : k0_chk1 t := (← Prog.lift (TpuEff.assume (k0_chk1 t) (k0_chk1.dec t))).down
  let orig : Vec F S1x1x128 .f32 ← Prog.lift (.load arg3 (Rect.unit (s := S1x256x128) (k0_off2 t) S1x1x128.size (k0_off2_inb t hw)).toLoadRect (View.loadsAt_vmem h_S1x1x128))
  let cur : Vec F S1x128 .f32 ← Prog.lift (.load arg6 (Rect.unit (s := S256x128) (k0_off3 t) S1x128.size (k0_off3_inb t hw)).toLoadRect (View.loadsAt_vmem h_S1x128))
  let _ : Vec F S1x128 .f32 ← Prog.lift (.load arg6 (Rect.unit (s := S256x128) (k0_off3 t) S1x128.size (k0_off3_inb t hw)).toLoadRect (View.loadsAt_vmem h_S1x128))
  Prog.lift (.store arg6 (Rect.unit (s := S256x128) (k0_off3 t) S1x128.size (k0_off3_inb t hw)) (penalised t orig cur) Finset.univ (View.stores_vmem_bits_univ h_S1x128 rfl) (.inl rfl))

/-- The row copied and penalised: its entries and the beam's score. -/
def rowHead : M F (RF F × F .f32) := do
  let x : Vec F S1x256x128 .f32 ← Prog.lift (.load arg3 (Rect.unit (s := S1x256x128) ![0, 0, 0] S1x256x128.size inb_S1x256x128_S1x256x128_0_0_0).toLoadRect (View.loadsAt_vmem h_S1x256x128))
  let _ : Vec F S256x128 .f32 ← Prog.lift (.load arg6 (Rect.unit (s := S256x128) ![0, 0] S256x128.size inb_S256x128_S256x128_0_0).toLoadRect (View.loadsAt_vmem h_S256x128))
  Prog.lift (.store arg6 (Rect.unit (s := S256x128) ![0, 0] S256x128.size inb_S256x128_S256x128_0_0)
    (shapeCast S256x128 (shapeCast S256x128 x shapeCasts_S1x256x128_S256x128) shapeCasts_S256x128_S256x128) Finset.univ (View.stores_vmem_bits_univ h_S256x128 rfl) (.inl rfl))
  Scf.Loop.for k0_t1_loop k0_t1_ok ⟨⟩ (trip arg1 arg3 arg6)
  let p : Vec F S256x128 .f32 ← Prog.lift (.load arg6 (Rect.unit (s := S256x128) ![0, 0] S256x128.size inb_S256x128_S256x128_0_0).toLoadRect (View.loadsAt_vmem h_S256x128))
  let b : Elt F .f32 ← smemLoad arg2 (Rect.unit (s := S1x1x1) ![0, 0, 0] S1x1x1.size inb_S1x1x1_S1x1x1_0_0_0) numel1_S1x1x1 rfl
  pure (p, b)

/-- The eight best entries of the row stored, and their places. -/
def rowTail (y : RF F) : M F PUnit := do
  let _ : Vec F S1x1x128 .f32 ← Prog.lift (.load arg4 (Rect.unit (s := S1x1x128) ![0, 0, 0] S1x1x128.size inb_S1x1x128_S1x1x128_0_0_0).toLoadRect (View.loadsAt_vmem h_S1x1x128))
  Prog.lift (.store arg4 (Rect.unit (s := S1x1x128) ![0, 0, 0] S1x1x128.size inb_S1x1x128_S1x1x128_0_0_0)
    (shapeCast S1x1x128 (roundsOf y 8).v shapeCasts_S1x128_S1x1x128) Finset.univ (View.stores_vmem_bits_univ h_S1x1x128 rfl) (.inl rfl))
  let _ : Vec F S1x1x128 .i32 ← Prog.lift (.load arg5 (Rect.unit (s := S1x1x128) ![0, 0, 0] S1x1x128.size inb_S1x1x128_S1x1x128_0_0_0).toLoadRect (View.loadsAt_vmem h_S1x1x128))
  Prog.lift (.store arg5 (Rect.unit (s := S1x1x128) ![0, 0, 0] S1x1x128.size inb_S1x1x128_S1x1x128_0_0_0)
    (shapeCast S1x1x128 (roundsOf y 8).p shapeCasts_S1x128_S1x1x128) Finset.univ (View.stores_vmem_bits_univ h_S1x1x128 rfl) (.inl rfl))

def rowProg : M F PUnit := do
  let r ← rowHead arg1 arg2 arg3 arg6
  rowTail arg4 arg5 (logp r.1 r.2)

set_option maxRecDepth 1000000 in
/-- The first window of the printed body. -/
theorem part1_eq (i : grid0.Coords) (h1 : arg1.IsWhole) (h2 : arg2.IsWhole) (h3 : arg3.IsWhole) (h4 : arg4.IsWhole)
    (h5 : arg5.IsWhole) (h6 : arg6.IsWhole) :
    k0_part1 (F := F) i arg1 h1 arg2 h2 arg3 h3 arg4 h4 arg5 h5 arg6 h6
      = (rowHead arg1 arg2 arg3 arg6) >>= fun r =>
        pure ⟨lane, logp r.1 r.2, flat, broadcast S1x128 (Scalar.ofBits .f32 0x00000000#32), broadcast S1x128 0#32,
          maxOf (logp r.1 r.2), broadcast S256x128 (maxOf (logp r.1 r.2))⟩ := by
  unfold rowHead
  simp only [Prog.bind_assoc]
  sl_kernel_rfl

set_option maxRecDepth 1000000 in
/-- The printed body is the program over the structured values. -/
theorem row_eq (i : grid0.Coords) (h1 : arg1.IsWhole) (h2 : arg2.IsWhole) (h3 : arg3.IsWhole) (h4 : arg4.IsWhole)
    (h5 : arg5.IsWhole) (h6 : arg6.IsWhole) :
    cc0__row_kernel (F := F) i arg1 h1 arg2 h2 arg3 h3 arg4 h4 arg5 h5 arg6 h6
      = rowProg arg1 arg2 arg3 arg4 arg5 arg6 := by
  unfold cc0__row_kernel rowProg
  rw [part1_eq]
  refine (Prog.bind_assoc _ _ _).trans (congrArg (Prog.bind (rowHead arg1 arg2 arg3 arg6)) (funext fun r => ?_))
  sl_kernel_rfl

end Cert.Proof.Row
-- ==== Proof.Words.lean ====
/- Comparisons and selections read at an index, as conditionals. -/
module

public import Idealize.ShloMosaic.Lib.ValueIdx

@[expose] public section

namespace Cert.Proof

open Idealize.ShloMosaic Idealize.ShloMosaic.ValueIdx

variable {s : Shape} {w : ℕ} {α : Type}

theorem cmpi_eq_apply (x y : IVec s w) (i : s.Idx) : cmpi .eq x y i = if x i = y i then 1#1 else 0#1 := by
  show BitVec.ofBool (x i == y i) = _
  by_cases h : x i = y i
  · rw [if_pos h, beq_iff_eq.mpr h]; rfl
  · rw [if_neg h, beq_eq_false_iff_ne.mpr h]; rfl

theorem cmpi_ne_apply (x y : IVec s w) (i : s.Idx) : cmpi .ne x y i = if x i = y i then 0#1 else 1#1 := by
  show BitVec.ofBool (!(x i == y i)) = _
  by_cases h : x i = y i
  · rw [if_pos h, beq_iff_eq.mpr h]; rfl
  · rw [if_neg h, beq_eq_false_iff_ne.mpr h]; rfl

theorem select_ite (p : Prop) [Decidable p] (a b : α) : Scalar.select (if p then 1#1 else 0#1) a b = if p then a else b := by
  by_cases h : p <;> simp [h, Scalar.select]

theorem select_ite_not (p : Prop) [Decidable p] (a b : α) : Scalar.select (if p then 0#1 else 1#1) a b = if p then b else a := by
  by_cases h : p <;> simp [h, Scalar.select]

theorem select_eq_apply (x y : IVec s w) (a b : s.Idx → α) (i : s.Idx) :
    select (cmpi .eq x y) a b i = if x i = y i then a i else b i := by
  rw [select_apply, cmpi_eq_apply, select_ite]

theorem ofNat_inj {m n : ℕ} (hm : m < 2 ^ 32) (hn : n < 2 ^ 32) : BitVec.ofNat 32 m = BitVec.ofNat 32 n ↔ m = n := by
  rw [← BitVec.toNat_inj, BitVec.toNat_ofNat, BitVec.toNat_ofNat, Nat.mod_eq_of_lt hm, Nat.mod_eq_of_lt hn]

end Cert.Proof
-- ==== Proof.RowRun.lean ====
/- The row kernel's run: from whole buffers to the eight best entries of the penalised row stored, with their places. -/
module

public import proofs.«01_k».proof.Proof.RowProg
public import proofs.«01_k».proof.Proof.Words
public import proofs.«01_k».proof.Proof.Gen.KernelIdeal.Launch
public import Idealize.ShloMosaic.Lib.Tactic
public import Idealize.ShloMosaic.Lib.Writes
public import Idealize.ShloMosaic.Lib.ValueIdx
public import Idealize.ShloMosaic.Lib.ValueLayout
public import Idealize.ShloMosaic.Lib.ValueLayoutCasts
public import Idealize.ShloMosaic.Lib.ValueIdxCoords

@[expose] public section

noncomputable section

namespace Cert.Proof.Row

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! ## The words of the token loop -/

theorem shr7 (t : BitVec 32) (h : t.toNat < 32768) : (Scalar.shrsi t 7#32).toNat = t.toNat / 128 := by
  have hm : t.msb = false := by
    rw [BitVec.msb_eq_decide]; simp; omega
  show (IntOp.shrsi .scalar t 7#32).toNat = _
  unfold IntOp.shrsi
  rw [if_pos (by decide)]
  show (t.sshiftRight 7).toNat = _
  rw [BitVec.sshiftRight_eq_of_msb_false hm, BitVec.toNat_ushiftRight, Nat.shiftRight_eq_div_pow]

theorem and127 (t : BitVec 32) : (Scalar.andi t 127#32).toNat = t.toNat % 128 := by
  show (t &&& 127#32).toNat = _
  rw [BitVec.toNat_and]
  exact Nat.and_two_pow_sub_one_eq_mod t.toNat 7

theorem off2_eq (t : BitVec 32) (h : t.toNat < 32768) : k0_off2 t = ![0, t.toNat / 128, 0] := by
  show ![0, (Scalar.shrsi t 7#32).toNat, 0] = _
  rw [shr7 t h]

theorem off3_eq (t : BitVec 32) (h : t.toNat < 32768) : k0_off3 t = ![t.toNat / 128, 0] := by
  show ![(Scalar.shrsi t 7#32).toNat, 0] = _
  rw [shr7 t h]

/-- A token in range has its rectangles in the row. -/
theorem chk_of_lt (t : BitVec 32) (h : t.toNat < 32768) : k0_chk1 t := by
  refine ⟨fun a => ?_, fun a => ?_⟩
  · rw [off2_eq t h]
    fin_cases a <;> simp [S1x1x128, S1x256x128] <;> omega
  · rw [off3_eq t h]
    fin_cases a <;> simp [S1x128, S256x128] <;> omega

theorem trips_eq : k0_t1_loop.trips = 50 := by decide

theorem off1_eq (j : Fin k0_t1_loop.trips) : k0_off1 j = ![0, 0, j.val] := by
  have hj : j.val < 50 := trips_eq ▸ j.isLt
  show ![0, 0, (Scf.iv 0#32 1#32 j).toNat] = _
  have : (Scf.iv 0#32 1#32 j.val).toNat = j.val := by
    unfold Scf.iv
    simp [BitVec.toNat_ofNat]
    omega
  rw [this]

/-! ## The run's values -/

theorem ext2 {m n : ℕ} {α : Type} {f g : (⟨2, ![m, n]⟩ : Shape).Idx → α}
    (h : ∀ (a : Fin m) (b : Fin n), f (ix2 a b) = g (ix2 a b)) : f = g := by
  funext i
  rw [eq_ix2 i]
  exact h _ _

variable {F : FTy → Type} [FloatOps F] [Named F]

theorem ext3 {k m n : ℕ} {α : Type} {f g : (⟨3, ![k, m, n]⟩ : Shape).Idx → α}
    (h : ∀ (e : Fin k) (a : Fin m) (b : Fin n), f (ix3 e a b) = g (ix3 e a b)) : f = g := by
  funext i
  rw [eq_ix3 i]
  exact h _ _ _

/-- The run's resources. -/
abbrev RM (F : FTy → Type) := MT nD τ sig Unit (Elt F) ℕ (UR sig nD τ) ℕ

/-- Memref `M`'s buffer on core `c`: its contents type, and it held whole at `f`. -/
abbrev Bf (F : FTy → Type) (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf F c M) : sProp (RM F) :=
  M.view.loc (c : Thread nD τ) ↦{fullShare} f
/-- What buffer contents `f` hold, read through the memref. -/
abbrev rd (c : Dev nD) {sp : Space} {S : Shape} {e : EltTy} (M : Memref sig .tc sp S e) (f : Bf F c M) : S.Idx → Elt F e :=
  M.view.read (Elt F) f

/-- One entry's penalty. -/
def pen1 (x : F .f32) : F .f32 :=
  Scalar.select (FloatOps.cmpf .olt x (Scalar.ofBits .f32 0x00000000#32)) (FloatOps.mulf x (Scalar.ofBits .f32 0x3F99999A#32))
    (FloatOps.mulf x (Named.named κ "inv_rep" 0x3F555555#32))

/-- Entry `(a, b)` of the row `x` after the penalties of the first `k` tokens of `T`. -/
def penAt (x : S1x256x128.Idx → F .f32) (T : S1x1x50.Idx → BitVec 32) (k : ℕ) (a : Fin 256) (b : Fin 128) : F .f32 :=
  if ∃ j : Fin 50, j.val < k ∧ (T (ix3 0 0 j)).toNat = a.val * 128 + b.val then pen1 (x (ix3 0 a b)) else x (ix3 0 a b)

/-- The row after the penalties of the first `k` tokens. -/
def penRow (x : S1x256x128.Idx → F .f32) (T : S1x1x50.Idx → BitVec 32) (k : ℕ) : RF F := fun i => penAt x T k (i 0) (i 1)

theorem penAt_zero (x : S1x256x128.Idx → F .f32) (T : S1x1x50.Idx → BitVec 32) (a : Fin 256) (b : Fin 128) :
    penAt x T 0 a b = x (ix3 0 a b) :=
  if_neg fun ⟨j, hj, _⟩ => Nat.not_lt_zero j.val hj

theorem penAt_succ (x : S1x256x128.Idx → F .f32) (T : S1x1x50.Idx → BitVec 32) (k : Fin 50) (a : Fin 256) (b : Fin 128) :
    penAt x T (k.val + 1) a b
      = if (T (ix3 0 0 k)).toNat = a.val * 128 + b.val then pen1 (x (ix3 0 a b)) else penAt x T k a b := by
  unfold penAt
  by_cases h : (T (ix3 0 0 k)).toNat = a.val * 128 + b.val
  · rw [if_pos h, if_pos ⟨k, Nat.lt_succ_self _, h⟩]
  · rw [if_neg h]
    congr 1
    refine propext ⟨fun ⟨j, hj, e⟩ => ⟨j, ?_, e⟩, fun ⟨j, hj, e⟩ => ⟨j, by omega, e⟩⟩
    rcases Nat.lt_succ_iff_lt_or_eq.mp hj with h' | h'
    · exact h'
    · obtain rfl : j = k := Fin.ext h'
      exact absurd e h

variable (M1 : Memref sig .tc .smem S1x1x50 .i32) (M2 : Memref sig .tc .smem S1x1x1 .f32)
  (M3 : Memref sig .tc .vmem S1x256x128 .f32) (M4 : Memref sig .tc .vmem S1x1x128 .f32)
  (M5 : Memref sig .tc .vmem S1x1x128 .i32) (M6 : Memref sig .tc .vmem S256x128 .f32)

theorem lane_apply (u : Fin 1) (l : Fin 128) : lane (ix2 u l) = BitVec.ofNat 32 l.val := by
  show BitVec.ofNat 32 (0 * 128 + l.val) = _
  rw [Nat.zero_mul, Nat.zero_add]

/-- A trip's 128 entries, read one by one. -/
theorem penalised_apply (t : BitVec 32) (orig : Vec F S1x1x128 .f32) (cur : Vec F S1x128 .f32) (l : Fin 128) :
    penalised t orig cur (ix2 0 l)
      = if l.val = t.toNat % 128 then pen1 (orig (ix3 0 0 l)) else cur (ix2 0 l) := by
  unfold penalised
  rw [shapeCast_apply _ _ (ix2 0 l) (ix2 0 l) rfl, select_eq_apply, lane_apply]
  have : BitVec.ofNat 32 l.val = broadcast S1x128 (Scalar.andi t 127#32) (ix2 0 l) ↔ l.val = t.toNat % 128 := by
    show BitVec.ofNat 32 l.val = Scalar.andi t 127#32 ↔ _
    rw [← BitVec.toNat_inj, and127, BitVec.toNat_ofNat, Nat.mod_eq_of_lt (by omega)]
  simp only [this]
  congr 1
  show pen1 (shapeCast S1x128 orig _ (ix2 0 l)) = _
  rw [shapeCast_1ab_ab_apply]

theorem trip_value (c : Dev nD) (f3 : Bf F c M3) (f6 : Bf F c M6) (t : BitVec 32) (ht : t.toNat < 32768)
    (p3 : ∀ a, k0_off3 t a + S1x128.size a ≤ S256x128.size a) (p2 : ∀ a, k0_off2 t a + S1x1x128.size a ≤ S1x256x128.size a)
    (a : Fin 256) (b : Fin 128) :
    rd c M6 (M6.view.writes (Elt F) f6 [⟨Rect.unit (s := S256x128) (k0_off3 t) S1x128.size p3,
        penalised t (View.readAt (Elt F) M3.view (Rect.unit (s := S1x256x128) (k0_off2 t) S1x1x128.size p2).toLoadRect f3)
          (View.readAt (Elt F) M6.view (Rect.unit (s := S256x128) (k0_off3 t) S1x128.size p3).toLoadRect f6)⟩]) (ix2 a b)
      = if t.toNat = a.val * 128 + b.val then pen1 (rd c M3 f3 (ix3 0 a b)) else rd c M6 f6 (ix2 a b) := by
  have o2 := off2_eq t ht
  have o3 := off3_eq t ht
  by_cases hr : a.val = t.toNat / 128
  · refine (View.read_writes_cons_hit_of_coords M6.view f6 (Rect.unit (s := S256x128) (k0_off3 t) S1x128.size p3) _ _
      (ix2 (0 : Fin 1) b) (ix2 a b) ?_).trans ?_
    · intro d
      fin_cases d <;> simp [Rect.unit, o3, hr]
    · refine (penalised_apply t _ _ b).trans ?_
      have : b.val = t.toNat % 128 ↔ t.toNat = a.val * 128 + b.val := by omega
      simp only [this]
      congr 1
      · show pen1 (M3.view.read (Elt F) f3 _) = _
        congr 2
        funext d
        apply Fin.ext
        fin_cases d <;> simp [Rect.unit, LoadRect.idx, o2, hr]
      · show M6.view.read (Elt F) f6 _ = _
        congr 1
        funext d
        apply Fin.ext
        fin_cases d <;> simp [Rect.unit, LoadRect.idx, o3, hr]
  · rw [if_neg (by omega)]
    exact View.read_writes_cons_miss_of_axis M6.view f6 _ _ (ix2 a b) 0 (t.toNat / 128) 1
      (by show k0_off3 t 0 = _; rw [o3]; rfl) rfl rfl (by show a.val < _ ∨ _ ≤ a.val; omega)

/-- One trip: the token's entry is penalised. -/
theorem trip_run (c : Dev nD) (h1 : M1.IsWhole) (h3 : M3.IsWhole) (h6 : M6.IsWhole) (f1 : Bf F c M1) (f3 : Bf F c M3)
    (f6 : Bf F c M6) (j : Fin k0_t1_loop.trips) (j' : Fin 50) (hj : j'.val = j.val)
    (hT : ∀ j, (rd c M1 f1 (ix3 0 0 j) : BitVec 32).toNat < 32768)
    (h : rd c M6 f6 = penRow (rd c M3 f3) (rd c M1 f1) j.val) (E : Set ℕ) :
    iprop(pt c M1 f1 ∗ pt c M3 f3 ∗ pt c M6 f6)
      ⊢ wp frame (wpE (defs₀ (F := F)) Variants.none c none) E (trip M1 M3 M6 j ⟨⟩)
        (fun _ => iprop(pt c M1 f1 ∗ pt c M3 f3 ∗ ∃ f, pt c M6 f ∗ ⌜rd c M6 f = penRow (rd c M3 f3) (rd c M1 f1) (j.val + 1)⌝)) := by
  have e : (M1.view.readAt (Elt F) (Rect.unit (s := S1x1x50) (k0_off1 j) S1x1x1.size (k0_off1_inb j)) f1
      (Shape.Idx.first (numel1_S1x1x1.symm ▸ Nat.one_pos)) : BitVec 32) = rd c M1 f1 (ix3 0 0 j') := by
    show M1.view.read (Elt F) f1 _ = _
    congr 1
    funext a
    apply Fin.ext
    have := off1_eq j
    fin_cases a <;> simp [Rect.unit, LoadRect.idx, this, hj]
    exact Nat.lt_one_iff.mp (Fin.isLt _)
  have hw : k0_chk1 (M1.view.readAt (Elt F) (Rect.unit (s := S1x1x50) (k0_off1 j) S1x1x1.size (k0_off1_inb j)) f1
      (Shape.Idx.first (numel1_S1x1x1.symm ▸ Nat.one_pos))) := by
    rw [e]; exact chk_of_lt _ (hT j')
  unfold trip
  iintro ⟨H1, H3, H6⟩
  sl_exec
  sl_step
  isplitl [H1]; · iexact H1
  isplitl [H3]; · iexact H3
  iexists _
  isplitl [H6]; · iexact H6
  ipureintro
  have er : trip_run.sl.r M1 c f1 j = rd c M1 f1 (ix3 0 0 j') := e
  funext i
  rw [eq_ix2 i]
  refine (trip_value M3 M6 c f3 f6 _ (by rw [er]; exact hT j') _ _ (i 0) (i 1)).trans ?_
  rw [h, ← hj, er]
  exact (penAt_succ _ _ j' _ _).symm

/-- The row the eight rounds look through. -/
def scoreRow (x : S1x256x128.Idx → F .f32) (T : S1x1x50.Idx → BitVec 32) (b : S1x1x1.Idx → F .f32) : RF F :=
  logp (penRow x T 50) (b (ix3 0 0 0))

/-- What the kernel stores: the eight best entries of the row, and their places. -/
def rowV (x : S1x256x128.Idx → F .f32) (T : S1x1x50.Idx → BitVec 32) (b : S1x1x1.Idx → F .f32) : FVec F S1x1x128 .f32 :=
  shapeCast S1x1x128 (roundsOf (scoreRow x T b) 8).v shapeCasts_S1x128_S1x1x128
def rowP (x : S1x256x128.Idx → F .f32) (T : S1x1x50.Idx → BitVec 32) (b : S1x1x1.Idx → F .f32) : IVec S1x1x128 32 :=
  shapeCast S1x1x128 (roundsOf (scoreRow x T b) 8).p shapeCasts_S1x128_S1x1x128

/-- The kernel's run. -/
theorem row_run (c : Dev nD) (h1 : M1.IsWhole) (h2 : M2.IsWhole) (h3 : M3.IsWhole) (h4 : M4.IsWhole) (h5 : M5.IsWhole)
    (h6 : M6.IsWhole) (f1 : Bf F c M1) (f2 : Bf F c M2) (f3 : Bf F c M3) (f4 : Bf F c M4) (f5 : Bf F c M5)
    (f6 : Bf F c M6) (hT : ∀ j, (rd c M1 f1 (ix3 0 0 j) : BitVec 32).toNat < 32768) (E : Set ℕ) (Q : PUnit → sProp (RM F)) :
    iprop(pt c M1 f1 ∗ pt c M2 f2 ∗ pt c M3 f3 ∗ pt c M4 f4 ∗ pt c M5 f5 ∗ pt c M6 f6
        ∗ (∀ g4 g5 g6, ⌜rd c M4 g4 = rowV (rd c M3 f3) (rd c M1 f1) (rd c M2 f2)⌝ -∗ ⌜rd c M5 g5 = rowP (rd c M3 f3) (rd c M1 f1) (rd c M2 f2)⌝
          -∗ pt c M1 f1 -∗ pt c M2 f2 -∗ pt c M3 f3 -∗ pt c M4 g4 -∗ pt c M5 g5 -∗ pt c M6 g6 -∗ Q ⟨⟩))
      ⊢ wp frame (wpE (defs₀ (F := F)) Variants.none c none) E (rowProg M1 M2 M3 M4 M5 M6) Q := by
  have hx : ∀ p q g, rd c M6 (M6.view.writes (Elt F) g [⟨Rect.unit (s := S256x128) ![0, 0] S256x128.size p,
      shapeCast S256x128 (shapeCast S256x128 (View.readAt (Elt F) M3.view (Rect.unit (s := S1x256x128) ![0, 0, 0] S1x256x128.size q).toLoadRect f3)
        shapeCasts_S1x256x128_S256x128) shapeCasts_S256x128_S256x128⟩]) = penRow (rd c M3 f3) (rd c M1 f1) 0 := by
    intro p q g
    refine ext2 fun a b => ?_
    refine (View.read_writes_cons_hit_of_coords M6.view g (Rect.unit (s := S256x128) ![0, 0] S256x128.size p) _ _
      (ix2 a b) (ix2 a b) ?_).trans ?_
    · intro d
      fin_cases d <;> simp [Rect.unit]
    · refine (shapeCast_apply _ _ (ix2 a b) (ix2 a b) rfl).trans ?_
      refine (shapeCast_1ab_ab_apply _ _ _ _).trans ?_
      show _ = penAt (rd c M3 f3) (rd c M1 f1) 0 a b
      rw [penAt_zero]
      show M3.view.read (Elt F) f3 _ = _
      congr 1
      funext d
      apply Fin.ext
      fin_cases d <;> simp [Rect.unit, LoadRect.idx]
  unfold rowProg rowHead rowTail
  simp only [Prog.bind_assoc]
  iintro ⟨H1, H2, H3, H4, H5, H6, Hk⟩
  sl_exec
  ihave HI : (fun (k : ℕ) (_ : PUnit.{1}) => iprop(pt c M1 f1 ∗ pt c M3 f3 ∗ ∃ f, pt c M6 f ∗ ⌜rd c M6 f = penRow (rd c M3 f3) (rd c M1 f1) k⌝)) 0 ⟨⟩ $$ [H1 H3 H6]
  · isplitl [H1]; · iexact H1
    isplitl [H3]; · iexact H3
    iexists _
    isplitl [H6]; · iexact H6
    ipureintro
    exact hx _ _ _
  iapply (Scf.wp_for_bind Idealize.ShloMosaic.frame (wpE (defs₀ (F := F)) Variants.none (c : Thread nD τ) none) E
    k0_t1_loop.lb k0_t1_loop.ub k0_t1_loop.st k0_t1_ok ⟨⟩ (trip M1 M3 M6)
    (fun (k : ℕ) (_ : PUnit.{1}) => iprop(pt c M1 f1 ∗ pt c M3 f3 ∗ ∃ f, pt c M6 f ∗ ⌜rd c M6 f = penRow (rd c M3 f3) (rd c M1 f1) k⌝))
    ?_) $$ HI
  · intro k acc
    iintro ⟨H1, H3, ⟨%f, H6, %h⟩⟩
    iapply trip_run M1 M3 M6 c h1 h3 h6 f1 f3 f k ⟨k.val, trips_eq ▸ k.isLt⟩ rfl hT h E
    isplitl [H1]; · iexact H1
    isplitl [H3]; · iexact H3
    iexact H6
  iintro %acc ⟨H1, H3, ⟨%f, H6, %h⟩⟩
  sl_exec
  sl_step
  have hr : ∀ p, View.readAt (Elt F) M6.view (Rect.unit (s := S256x128) ![0, 0] S256x128.size p).toLoadRect f
      = penRow (rd c M3 f3) (rd c M1 f1) 50 := by
    intro p
    refine Eq.trans (ext2 fun a b => ?_) (h.trans (congrArg (penRow (rd c M3 f3) (rd c M1 f1)) trips_eq))
    show M6.view.read (Elt F) f _ = _
    congr 1
    funext d
    apply Fin.ext
    fin_cases d <;> simp [Rect.unit, LoadRect.idx]
  have hb : row_run.sl.r M2 c f2 = rd c M2 f2 (ix3 0 0 0) := by
    show M2.view.read (Elt F) f2 _ = _
    congr 1
    funext d
    apply Fin.ext
    fin_cases d <;> simp [Rect.unit, LoadRect.idx] <;> exact Nat.lt_one_iff.mp (Fin.isLt _)
  iapply Hk $$ [] [] H1 H2 H3 H4 H5 H6
  · ipureintro
    refine ext3 fun a b e => ?_
    refine (View.read_writes_cons_hit_of_coords M4.view f4 (Rect.unit (s := S1x1x128) ![0, 0, 0] S1x1x128.size
      inb_S1x1x128_S1x1x128_0_0_0) _ _ (ix3 a b e) (ix3 a b e) ?_).trans ?_
    · intro d
      fin_cases d <;> simp [Rect.unit]
    · rw [hr, hb]; rfl
  · ipureintro
    refine ext3 fun a b e => ?_
    refine (View.read_writes_cons_hit_of_coords M5.view f5 (Rect.unit (s := S1x1x128) ![0, 0, 0] S1x1x128.size
      inb_S1x1x128_S1x1x128_0_0_0) _ _ (ix3 a b e) (ix3 a b e) ?_).trans ?_
    · intro d
      fin_cases d <;> simp [Rect.unit]
    · rw [hr, hb]; rfl

end Cert.Proof.Row
-- ==== Proof.MergeRun.lean ====
/- The merge kernel's run: from whole buffers to the four slots of every batch stored. -/
module

public import proofs.«01_k».proof.Proof.MergeProg
public import proofs.«01_k».proof.Proof.RowRun

@[expose] public section

noncomputable section

namespace Cert.Proof.Merge

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Proof.Row (RM Bf pt rd ext2 ext3)

variable {F : FTy → Type} [FloatOps F] [Named F]

/-- Column `(w, k)` of the scores or the tokens. -/
def colOf {e : EltTy} (x : S32x4x128.Idx → Elt F e) (w : Fin 4) (k : Fin 8) : Vec F S32x1x1 e :=
  fun i => x (ix3 (i 0) w (⟨k.val, Nat.lt_trans k.isLt (by decide)⟩ : Fin 128))

/-- The old tokens of beam `w`. -/
def oldOf (x : S32x4x50.Idx → BitVec 32) (w : Fin 4) : Vec F S32x1x50 .i32 := fun i => x (ix3 (i 0) w (i 2))

/-- A unit axis put in the middle. -/
theorem cast_mid {α : Type} {a n : ℕ} (x : (⟨2, ![a, n]⟩ : Shape).Idx → α) (h : (⟨2, ![a, n]⟩ : Shape).ShapeCasts ⟨3, ![a, 1, n]⟩)
    (i : Fin a) (u : Fin 1) (k : Fin n) : shapeCast ⟨3, ![a, 1, n]⟩ x h (ix3 i u k) = x (ix2 i k) :=
  shapeCast_apply x h _ _ (by
    obtain rfl := Subsingleton.elim u 0
    rw [Shape.rowMajor_val_two, Shape.rowMajor_val_three]
    simp)

/-- A unit axis taken from the middle. -/
theorem cast_mid' {α : Type} {a n : ℕ} (x : (⟨3, ![a, 1, n]⟩ : Shape).Idx → α) (h : (⟨3, ![a, 1, n]⟩ : Shape).ShapeCasts ⟨2, ![a, n]⟩)
    (i : Fin a) (k : Fin n) : shapeCast ⟨2, ![a, n]⟩ x h (ix2 i k) = x (ix3 i 0 k) :=
  shapeCast_apply x h _ _ (by
    rw [Shape.rowMajor_val_two, Shape.rowMajor_val_three]
    simp)

/-- The candidate at a place. -/
def candAt (x : S32x4x128.Idx → F .f32) (y : S32x4x128.Idx → BitVec 32) (q : Fin 4 × Fin 8) : Cand F :=
  cand q.1.1 (colOf (e := .f32) x q.1 q.2) (colOf (F := F) (e := .i32) y q.1 q.2)

/-- The token at place `k` of a slot's results: an old token of its beam, or its own token after them. -/
def idAt (x : S32x4x50.Idx → BitVec 32) (p : Pick F) (b : Fin 32) (k : Fin 51) : BitVec 32 :=
  if h : k.val < 50 then
    history (F := F) p.b (oldOf (F := F) x 0) (oldOf (F := F) x 1) (oldOf (F := F) x 2) (oldOf (F := F) x 3) (ix2 b ⟨k.val, h⟩)
  else p.t (ix2 b 0)

variable (M0 : Memref sig .tc .vmem S32x4x128 .f32) (M1 : Memref sig .tc .vmem S32x4x128 .i32)
  (M2 : Memref sig .tc .vmem S32x4x50 .i32) (M3 : Memref sig .tc .vmem S32x4 .f32)
  (M4 : Memref sig .tc .vmem S32x4 .i32) (M5 : Memref sig .tc .vmem S32x4x51 .i32)
  (M6 : Memref sig .tc .vmem S32x4 .f32)

theorem readAt_col {e : EltTy} (c : Dev nD) (M : Memref sig .tc .vmem S32x4x128 e) (f : Bf F c M) (w : Fin 4) (k : Fin 8) (p) :
    View.readAt (Elt F) M.view (Rect.unit (s := S32x4x128) ![0, w.1, k.1] S32x1x1.size p).toLoadRect f
      = colOf (rd c M f) w k := by
  refine ext3 fun a b e => ?_
  show M.view.read (Elt F) f _ = M.view.read (Elt F) f _
  congr 1
  funext d
  apply Fin.ext
  fin_cases d <;> simp [Rect.unit, LoadRect.idx] <;> omega

theorem readAt_old (c : Dev nD) (f : Bf F c M2) (w : Fin 4) (p) :
    View.readAt (Elt F) M2.view (Rect.unit (s := S32x4x50) ![0, w.1, 0] S32x1x50.size p).toLoadRect f
      = oldOf (F := F) (rd c M2 f) w := by
  refine ext3 fun a b e => ?_
  show M2.view.read (Elt F) f _ = M2.view.read (Elt F) f _
  congr 1
  funext d
  apply Fin.ext
  fin_cases d <;> simp [Rect.unit, LoadRect.idx] <;> omega

/-- The loads of one candidate. -/
theorem pair_run (c : Dev nD) (h0 : M0.IsWhole) (h1 : M1.IsWhole) (f0 : Bf F c M0) (f1 : Bf F c M1) (E : Set ℕ)
    (Q : PUnit → sProp (RM F)) (w : Fin 4) (j : Fin 8) (k : Vec F S32x1x1 .f32 → Vec F S32x1x1 .i32 → M F PUnit) :
    iprop(pt c M0 f0 ∗ pt c M1 f1 ∗ (pt c M0 f0 -∗ pt c M1 f1
        -∗ wp frame (wpE (defs₀ (F := F)) Variants.none c none) E (k (colOf (rd c M0 f0) w j) (colOf (rd c M1 f1) w j)) Q))
      ⊢ wp frame (wpE (defs₀ (F := F)) Variants.none c none) E (do
          let v : Vec F S32x1x1 .f32 ← Prog.lift (.load M0
            (Rect.unit (s := S32x4x128) ![0, w.1, j.1] S32x1x1.size (inb_cand w j)).toLoadRect (View.loadsAt_vmem h_S32x1x1))
          let t : Vec F S32x1x1 .i32 ← Prog.lift (.load M1
            (Rect.unit (s := S32x4x128) ![0, w.1, j.1] S32x1x1.size (inb_cand w j)).toLoadRect (View.loadsAt_vmem h_S32x1x1))
          k v t) Q := by
  iintro ⟨H0, H1, Hk⟩
  sl_exec
  rw [readAt_col, readAt_col]
  iapply Hk $$ H0 H1

/-- The loads of the candidates. -/
theorem gather_run (c : Dev nD) (h0 : M0.IsWhole) (h1 : M1.IsWhole) (f0 : Bf F c M0) (f1 : Bf F c M1) (E : Set ℕ)
    (Q : PUnit → sProp (RM F)) (l : List (Fin 4 × Fin 8)) :
    ∀ k : List (Cand F) → M F PUnit,
      iprop(pt c M0 f0 ∗ pt c M1 f1 ∗ (pt c M0 f0 -∗ pt c M1 f1
          -∗ wp frame (wpE (defs₀ (F := F)) Variants.none c none) E (k (l.map (candAt (rd c M0 f0) (rd c M1 f1)))) Q))
        ⊢ wp frame (wpE (defs₀ (F := F)) Variants.none c none) E (gather M0 M1 l k) Q := by
  induction l with
  | nil =>
    intro k
    iintro ⟨H0, H1, Hk⟩
    iapply Hk $$ H0 H1
  | cons q l ih =>
    intro k
    obtain ⟨w, j⟩ := q
    unfold gather
    iintro ⟨H0, H1, Hk⟩
    iapply pair_run M0 M1 c h0 h1 f0 f1 E Q w j
    isplitl [H0]; · iexact H0
    isplitl [H1]; · iexact H1
    iintro H0 H1
    iapply ih
    isplitl [H0]; · iexact H0
    isplitl [H1]; · iexact H1
    iexact Hk

/-- Column `i` of a result replaced. -/
theorem read_col {e : EltTy} (c : Dev nD) (M : Memref sig .tc .vmem S32x4 e) (f : Bf F c M) (i : Fin 4) (v : S32x1.Idx → Elt F e) (p)
    (b : Fin 32) (j : Fin 4) :
    rd c M (M.view.writes (Elt F) f [⟨Rect.unit (s := S32x4) ![0, i.1] S32x1.size p, v⟩]) (ix2 b j)
      = if j = i then v (ix2 b 0) else rd c M f (ix2 b j) := by
  by_cases h : j = i
  · subst h
    rw [if_pos rfl]
    refine View.read_writes_cons_hit_of_coords M.view f (Rect.unit (s := S32x4) ![0, j.1] S32x1.size p) _ _ (ix2 b (0 : Fin 1)) (ix2 b j) ?_
    intro d
    fin_cases d <;> simp [Rect.unit]
  · rw [if_neg h]
    exact View.read_writes_cons_miss_of_axis M.view f _ _ (ix2 b j) 1 i.1 1 rfl rfl rfl
      (by have : j.val ≠ i.val := fun e => h (Fin.ext e); show j.val < _ ∨ _ ≤ j.val; omega)

theorem read_ids (c : Dev nD) (f : Bf F c M5) (i : Fin 4) (v : S32x1x50.Idx → BitVec 32) (t : S32x1x1.Idx → BitVec 32) (p q)
    (b : Fin 32) (j : Fin 4) (k : Fin 51) :
    rd c M5 (M5.view.writes (Elt F) f [⟨Rect.unit (s := S32x4x51) ![0, i.1, 50] S32x1x1.size q, t⟩,
        ⟨Rect.unit (s := S32x4x51) ![0, i.1, 0] S32x1x50.size p, v⟩]) (ix3 b j k)
      = if j = i then (if h : k.val < 50 then v (ix3 b 0 ⟨k.val, h⟩) else t (ix3 b 0 0)) else rd c M5 f (ix3 b j k) := by
  by_cases h : j = i
  · subst h
    rw [if_pos rfl]
    by_cases hk : k.val < 50
    · rw [dif_pos hk]
      refine (View.read_writes_cons_miss_of_axis M5.view f _ _ (ix3 b j k) 2 50 1 rfl rfl rfl
        (by show k.val < _ ∨ _ ≤ k.val; omega)).trans ?_
      refine View.read_writes_cons_hit_of_coords M5.view f (Rect.unit (s := S32x4x51) ![0, j.1, 0] S32x1x50.size p) _ _
        (ix3 b (0 : Fin 1) (⟨k.val, hk⟩ : Fin 50)) (ix3 b j k) ?_
      intro d
      fin_cases d <;> simp [Rect.unit]
    · rw [dif_neg hk]
      refine View.read_writes_cons_hit_of_coords M5.view f (Rect.unit (s := S32x4x51) ![0, j.1, 50] S32x1x1.size q) _ _
        (ix3 b (0 : Fin 1) (0 : Fin 1)) (ix3 b j k) ?_
      intro d
      have : k.val = 50 := by omega
      fin_cases d <;> simp [Rect.unit, this]
  · rw [if_neg h]
    have : j.val ≠ i.val := fun e => h (Fin.ext e)
    refine (View.read_writes_cons_miss_of_axis M5.view f _ _ (ix3 b j k) 1 i.1 1 rfl rfl rfl
      (by show j.val < _ ∨ _ ≤ j.val; omega)).trans ?_
    exact View.read_writes_cons_miss_of_axis M5.view f _ _ (ix3 b j k) 1 i.1 1 rfl rfl rfl
      (by show j.val < _ ∨ _ ≤ j.val; omega)

/-- One slot stored. -/
theorem slot_run (c : Dev nD) (h2 : M2.IsWhole) (h3 : M3.IsWhole) (h4 : M4.IsWhole) (h5 : M5.IsWhole) (h6 : M6.IsWhole)
    (f2 : Bf F c M2) (f3 : Bf F c M3) (f4 : Bf F c M4) (f5 : Bf F c M5) (f6 : Bf F c M6) (i : Fin 4) (p : Pick F) (E : Set ℕ) :
    iprop(pt c M2 f2 ∗ pt c M3 f3 ∗ pt c M4 f4 ∗ pt c M5 f5 ∗ pt c M6 f6)
      ⊢ wp frame (wpE (defs₀ (F := F)) Variants.none c none) E (storeSlot M2 M3 M4 M5 M6 i p)
        (fun _ => iprop(∃ g3 g4 g5 g6,
          ⌜(∀ b j, rd c M3 g3 (ix2 b j) = if j = i then p.s (ix2 b 0) else rd c M3 f3 (ix2 b j))
            ∧ (∀ b j, rd c M4 g4 (ix2 b j) = if j = i then p.t (ix2 b 0) else rd c M4 f4 (ix2 b j))
            ∧ (∀ b j k, rd c M5 g5 (ix3 b j k) = if j = i then idAt (rd c M2 f2) p b k else rd c M5 f5 (ix3 b j k))
            ∧ (∀ b j, rd c M6 g6 (ix2 b j) = if j = i then p.s (ix2 b 0) else rd c M6 f6 (ix2 b j))⌝
          ∗ pt c M2 f2 ∗ pt c M3 g3 ∗ pt c M4 g4 ∗ pt c M5 g5 ∗ pt c M6 g6)) := by
  unfold storeSlot
  iintro ⟨H2, H3, H4, H5, H6⟩
  sl_exec
  sl_step
  iexists _, _, _, _
  isplitr
  swap
  · isplitl [H2]; · iexact H2
    isplitl [H3]; · iexact H3
    isplitl [H4]; · iexact H4
    isplitl [H5]; · iexact H5
    iexact H6
  ipureintro
  refine ⟨fun b j => read_col c M3 f3 i _ _ b j, fun b j => read_col c M4 f4 i _ _ b j, fun b j k => ?_,
    fun b j => read_col c M6 f6 i _ _ b j⟩
  refine (read_ids M5 c f5 i _ _ _ _ b j k).trans ?_
  congr 1
  unfold idAt
  split
  · refine (cast_mid _ _ b 0 _).trans ?_
    rw [readAt_old, readAt_old, readAt_old, readAt_old]
  · exact cast_mid _ _ b 0 0

/-- The four slots stored. -/
theorem slots_run (c : Dev nD) (h2 : M2.IsWhole) (h3 : M3.IsWhole) (h4 : M4.IsWhole) (h5 : M5.IsWhole) (h6 : M6.IsWhole)
    (f2 : Bf F c M2) (f3 : Bf F c M3) (f4 : Bf F c M4) (f5 : Bf F c M5) (f6 : Bf F c M6) (o : List (Pick F)) (E : Set ℕ) :
    iprop(pt c M2 f2 ∗ pt c M3 f3 ∗ pt c M4 f4 ∗ pt c M5 f5 ∗ pt c M6 f6)
      ⊢ wp frame (wpE (defs₀ (F := F)) Variants.none c none) E (storeSlots M2 M3 M4 M5 M6 o)
        (fun _ => iprop(∃ g3 g4 g5 g6,
          ⌜(∀ b j, rd c M3 g3 (ix2 b j) = (o.getD j.val emptySlot).s (ix2 b 0))
            ∧ (∀ b j, rd c M4 g4 (ix2 b j) = (o.getD j.val emptySlot).t (ix2 b 0))
            ∧ (∀ b j k, rd c M5 g5 (ix3 b j k) = idAt (rd c M2 f2) (o.getD j.val emptySlot) b k)
            ∧ (∀ b j, rd c M6 g6 (ix2 b j) = (o.getD j.val emptySlot).s (ix2 b 0))⌝
          ∗ pt c M2 f2 ∗ pt c M3 g3 ∗ pt c M4 g4 ∗ pt c M5 g5 ∗ pt c M6 g6)) := by
  iintro ⟨H2, H3, H4, H5, H6⟩
  unfold storeSlots
  rw [wp_bind]
  iapply wp_wand_r
  isplitl [H2 H3 H4 H5 H6]
  · iapply slot_run M2 M3 M4 M5 M6 c h2 h3 h4 h5 h6 f2 f3 f4 f5 f6 0 (o.getD 0 emptySlot) E
    isplitl [H2]; · iexact H2
    isplitl [H3]; · iexact H3
    isplitl [H4]; · iexact H4
    isplitl [H5]; · iexact H5
    iexact H6
  iintro %_ ⟨%g3, %g4, %g5, %g6, %hg, H2, H3, H4, H5, H6⟩
  rw [wp_bind]
  iapply wp_wand_r
  isplitl [H2 H3 H4 H5 H6]
  · iapply slot_run M2 M3 M4 M5 M6 c h2 h3 h4 h5 h6 f2 g3 g4 g5 g6 1 (o.getD 1 emptySlot) E
    isplitl [H2]; · iexact H2
    isplitl [H3]; · iexact H3
    isplitl [H4]; · iexact H4
    isplitl [H5]; · iexact H5
    iexact H6
  iintro %_ ⟨%k3, %k4, %k5, %k6, %hk, H2, H3, H4, H5, H6⟩
  rw [wp_bind]
  iapply wp_wand_r
  isplitl [H2 H3 H4 H5 H6]
  · iapply slot_run M2 M3 M4 M5 M6 c h2 h3 h4 h5 h6 f2 k3 k4 k5 k6 2 (o.getD 2 emptySlot) E
    isplitl [H2]; · iexact H2
    isplitl [H3]; · iexact H3
    isplitl [H4]; · iexact H4
    isplitl [H5]; · iexact H5
    iexact H6
  iintro %_ ⟨%m3, %m4, %m5, %m6, %hm, H2, H3, H4, H5, H6⟩
  iapply wp_wand_r
  isplitl [H2 H3 H4 H5 H6]
  · iapply slot_run M2 M3 M4 M5 M6 c h2 h3 h4 h5 h6 f2 m3 m4 m5 m6 3 (o.getD 3 emptySlot) E
    isplitl [H2]; · iexact H2
    isplitl [H3]; · iexact H3
    isplitl [H4]; · iexact H4
    isplitl [H5]; · iexact H5
    iexact H6
  iintro %_ ⟨%n3, %n4, %n5, %n6, %hn, H2, H3, H4, H5, H6⟩
  iexists n3, n4, n5, n6
  isplitr
  swap
  · isplitl [H2]; · iexact H2
    isplitl [H3]; · iexact H3
    isplitl [H4]; · iexact H4
    isplitl [H5]; · iexact H5
    iexact H6
  ipureintro
  refine ⟨fun b j => ?_, fun b j => ?_, fun b j k => ?_, fun b j => ?_⟩
  · rw [hn.1, hm.1, hk.1, hg.1]
    fin_cases j <;> rfl
  · rw [hn.2.1, hm.2.1, hk.2.1, hg.2.1]
    fin_cases j <;> rfl
  · rw [hn.2.2.1, hm.2.2.1, hk.2.2.1, hg.2.2.1]
    fin_cases j <;> rfl
  · rw [hn.2.2.2, hm.2.2.2, hk.2.2.2, hg.2.2.2]
    fin_cases j <;> rfl

/-- The slot the kernel stores in column `j`. -/
def slotAt (x : S32x4x128.Idx → F .f32) (y : S32x4x128.Idx → BitVec 32) (j : Fin 4) : Pick F :=
  (slots (places.map (candAt x y))).getD j.val emptySlot

/-- The scores, the tokens and the sequences the kernel stores. -/
def outS (x : S32x4x128.Idx → F .f32) (y : S32x4x128.Idx → BitVec 32) : S32x4.Idx → F .f32 :=
  fun i => (slotAt x y (i 1)).s (ix2 (i 0) 0)
def outT (x : S32x4x128.Idx → F .f32) (y : S32x4x128.Idx → BitVec 32) : S32x4.Idx → BitVec 32 :=
  fun i => (slotAt x y (i 1)).t (ix2 (i 0) 0)
def outI (x : S32x4x128.Idx → F .f32) (y : S32x4x128.Idx → BitVec 32) (z : S32x4x50.Idx → BitVec 32) : S32x4x51.Idx → BitVec 32 :=
  fun i => idAt z (slotAt x y (i 1)) (i 0) (i 2)

/-- The kernel's run. -/
theorem merge_run (c : Dev nD) (h0 : M0.IsWhole) (h1 : M1.IsWhole) (h2 : M2.IsWhole) (h3 : M3.IsWhole) (h4 : M4.IsWhole)
    (h5 : M5.IsWhole) (h6 : M6.IsWhole) (f0 : Bf F c M0) (f1 : Bf F c M1) (f2 : Bf F c M2) (f3 : Bf F c M3) (f4 : Bf F c M4)
    (f5 : Bf F c M5) (f6 : Bf F c M6) (E : Set ℕ) (Q : PUnit → sProp (RM F)) :
    iprop(pt c M0 f0 ∗ pt c M1 f1 ∗ pt c M2 f2 ∗ pt c M3 f3 ∗ pt c M4 f4 ∗ pt c M5 f5 ∗ pt c M6 f6
        ∗ (∀ g3 g4 g5 g6, ⌜rd c M3 g3 = outS (rd c M0 f0) (rd c M1 f1)⌝ -∗ ⌜rd c M4 g4 = outT (rd c M0 f0) (rd c M1 f1)⌝
          -∗ ⌜rd c M5 g5 = outI (rd c M0 f0) (rd c M1 f1) (rd c M2 f2)⌝ -∗ ⌜rd c M6 g6 = outS (rd c M0 f0) (rd c M1 f1)⌝
          -∗ pt c M0 f0 -∗ pt c M1 f1 -∗ pt c M2 f2 -∗ pt c M3 g3 -∗ pt c M4 g4 -∗ pt c M5 g5 -∗ pt c M6 g6 -∗ Q ⟨⟩))
      ⊢ wp frame (wpE (defs₀ (F := F)) Variants.none c none) E (mergeProg M0 M1 M2 M3 M4 M5 M6) Q := by
  unfold mergeProg
  iintro ⟨H0, H1, H2, H3, H4, H5, H6, Hk⟩
  iapply gather_run M0 M1 c h0 h1 f0 f1 E Q places
  isplitl [H0]; · iexact H0
  isplitl [H1]; · iexact H1
  iintro H0 H1
  iapply wp_wand_r
  isplitl [H2 H3 H4 H5 H6]
  · iapply slots_run M2 M3 M4 M5 M6 c h2 h3 h4 h5 h6 f2 f3 f4 f5 f6 (slots (places.map (candAt (rd c M0 f0) (rd c M1 f1)))) E
    isplitl [H2]; · iexact H2
    isplitl [H3]; · iexact H3
    isplitl [H4]; · iexact H4
    isplitl [H5]; · iexact H5
    iexact H6
  iintro %_ ⟨%n3, %n4, %n5, %n6, %hn, H2, H3, H4, H5, H6⟩
  iapply Hk $$ [] [] [] [] H0 H1 H2 H3 H4 H5 H6
  · ipureintro
    exact ext2 hn.1
  · ipureintro
    exact ext2 hn.2.1
  · ipureintro
    exact ext3 hn.2.2.1
  · ipureintro
    exact ext2 hn.2.2.2

end Cert.Proof.Merge
-- ==== Proof.Entry.lean ====
/- The two calls as segments of the whole program's run: each call's proof data at an entry valuation, its body
   obligation from the body's run, and its segment record over the unscoped buffers. -/
module

public import proofs.«01_k».proof.Proof.MergeRun
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Frame
public import Idealize.ShloMosaic.Lib.Pipeline.Regions

@[expose] public section

noncomputable section

namespace Cert.Proof.Entry

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen
open Cert.Proof.Row (RM Bf pt rd ext2 ext3 rowV rowP rowProg row_run row_eq)
open Cert.Proof.Merge (outS outT outI merge_run merge_eq)

variable {F : FTy → Type} [FloatOps F] [Named F]

/-- Ownership of a whole memref: its buffer held whole, at contents that read as stated. -/
theorem owns_pt (c : Dev nD) {sp : Space} {S : Shape} {e : EltTy} {M : Memref sig .tc sp S e} (h : M.IsWhole) (X : S.Idx → Elt F e) :
    (owns (c : Thread nD τ) M fullShare X : sProp (RM F)) = iprop(∃ f : Bf F c M, ⌜rd c M f = X⌝ ∗ pt c M f) := by
  unfold owns
  obtain ⟨b, rfl, rfl, rfl, hM⟩ := h
  obtain rfl := eq_of_heq hM
  simp only [Memref.view_whole, View.set_whole]

abbrev 𝒱₀ : Variants := Variants.none

/-- No core owes another anything: no level is assigned. -/
abbrev L : GSem nD τ sig → Finset Unit := fun _ => ∅
abbrev lv : GSem nD τ sig → Unit → ℕ := fun _ _ => 0

variable (V : (c : Dev nD) → (b : Ref sig .tc) → Buf (Elt F) ((c : Thread nD τ).loc b))

/-- A staging buffer held at what the body finds, and at what it leaves. -/
abbrev found {cfg : Cfg sig Λ₀} {c : Dev nD} (dat : Dat τ (Elt F) Unit ℕ (UR sig nD τ) ℕ cfg c) (t : Fin cfg.N) (w : Fin cfg.W) : sProp (RM F) :=
  iprop(∃ d, owns (c : Thread nD τ) ((cfg.win w).stage (cfg.slots t w)) fullShare (dat.before w t d))
abbrev left {cfg : Cfg sig Λ₀} {c : Dev nD} (dat : Dat τ (Elt F) Unit ℕ (UR sig nD τ) ℕ cfg c) (t : Fin cfg.N) (w : Fin cfg.W) : sProp (RM F) :=
  owns (c : Thread nD τ) ((cfg.win w).stage (cfg.slots t w)) fullShare (dat.after w t)

/-! ## The row call -/

/-- Point `t`'s blocks of the tokens, the beam scores and the rows. -/
abbrev tokB (c : Dev nD) (t : Fin cfg0.N) : S1x1x50.Idx → BitVec 32 := ((cfg0.win 0).blk t).view.read (Elt F) (V c main_v1)
abbrev beamB (c : Dev nD) (t : Fin cfg0.N) : S1x1x1.Idx → F .f32 := ((cfg0.win 1).blk t).view.read (Elt F) (V c main_v2)
abbrev rowB (c : Dev nD) (t : Fin cfg0.N) : S1x256x128.Idx → F .f32 := ((cfg0.win 2).blk t).view.read (Elt F) (V c main_v0)

def dat0 (c : Dev nD) : Dat τ (Elt F) Unit ℕ (UR sig nD τ) ℕ cfg0 c where
  A w := V c (Pipeline.arrRef spec0 w)
  after w t := match w with
    | ⟨0, _⟩ => tokB V c t
    | ⟨1, _⟩ => beamB V c t
    | ⟨2, _⟩ => rowB V c t
    | ⟨3, _⟩ => rowV (rowB V c t) (tokB V c t) (beamB V c t)
    | ⟨4, _⟩ => rowP (rowB V c t) (tokB V c t) (beamB V c t)
  Φ _ := Pipeline.scopedRest (Ix := Unit) (Name := ℕ) (U := UR sig nD τ) (Lvl := ℕ) (Val := Elt F) spec0 c
  q _ := fullShare
  owed _ := 0

theorem before0_0 (c : Dev nD) (t : Fin cfg0.N) (d) : (dat0 V c).before 0 t d = tokB V c t :=
  ((dat0 V c).before_fetched 0 t (fetch0_0 t) d).trans rfl
theorem before0_1 (c : Dev nD) (t : Fin cfg0.N) (d) : (dat0 V c).before 1 t d = beamB V c t :=
  ((dat0 V c).before_fetched 1 t (fetch0_1 t) d).trans rfl
theorem before0_2 (c : Dev nD) (t : Fin cfg0.N) (d) : (dat0 V c).before 2 t d = rowB V c t :=
  ((dat0 V c).before_fetched 2 t (fetch0_2 t) d).trans rfl

/-- Every token of the launch is in range. -/
def TokOk : Prop := ∀ c i, (V c main_v1 i : BitVec 32).toNat < 32768

theorem obl0 (hT : TokOk V) (c : Dev nD) : BodyObligation (dat0 V c) (defs₀ (F := F)) 𝒱₀ () Set.univ := fun t => by
  rw [bigSep_W0, bigSep_W0]
  rw [show (dat0 V c).Φ t.castSucc = Pipeline.scopedRest (Ix := Unit) (Name := ℕ) (U := UR sig nD τ) (Lvl := ℕ) (Val := Elt F) spec0 c from rfl,
    show (dat0 V c).Φ t.succ = Pipeline.scopedRest (Ix := Unit) (Name := ℕ) (U := UR sig nD τ) (Lvl := ℕ) (Val := Elt F) spec0 c from rfl,
    show (dat0 V c).owesAt () t.succ = (dat0 V c).owesAt () t.castSucc from rfl, scopedRest0_eq]
  rw [show defs₀ (F := F) .tc cfg0.body (cfg0.bodyArgs t (cfg0.slots t)) = bodyAt0 t from rfl, bodyAt0, row_eq]
  have e0 := owns_pt (F := F) c (hstage0_0 ((cfg0.slots t 0).cast nbuf0_0))
  have e1 := owns_pt (F := F) c (hstage0_1 ((cfg0.slots t 1).cast nbuf0_1))
  have e2 := owns_pt (F := F) c (hstage0_2 ((cfg0.slots t 2).cast nbuf0_2))
  have e3 := owns_pt (F := F) c (hstage0_3 ((cfg0.slots t 3).cast nbuf0_3))
  have e4 := owns_pt (F := F) c (hstage0_4 ((cfg0.slots t 4).cast nbuf0_4))
  show iprop(_ ∗ _ ∗ found (dat0 V c) t 0 ∗ found (dat0 V c) t 1 ∗ found (dat0 V c) t 2 ∗ found (dat0 V c) t 3 ∗ found (dat0 V c) t 4)
    ⊢ wp frame _ _ _ fun _ => iprop(_ ∗ _ ∗ left (dat0 V c) t 0 ∗ left (dat0 V c) t 1 ∗ left (dat0 V c) t 2 ∗ left (dat0 V c) t 3 ∗ left (dat0 V c) t 4)
  unfold found left
  rw [show (cfg0.win 0).stage (cfg0.slots t 0) = stage0_0 ((cfg0.slots t 0).cast nbuf0_0) from rfl,
    show (cfg0.win 1).stage (cfg0.slots t 1) = stage0_1 ((cfg0.slots t 1).cast nbuf0_1) from rfl,
    show (cfg0.win 2).stage (cfg0.slots t 2) = stage0_2 ((cfg0.slots t 2).cast nbuf0_2) from rfl,
    show (cfg0.win 3).stage (cfg0.slots t 3) = stage0_3 ((cfg0.slots t 3).cast nbuf0_3) from rfl,
    show (cfg0.win 4).stage (cfg0.slots t 4) = stage0_4 ((cfg0.slots t 4).cast nbuf0_4) from rfl]
  simp only [before0_0, before0_1, before0_2]
  simp only [e0, e1, e2, e3, e4]
  iintro ⟨⟨⟨%f6, H6⟩, HΦ⟩, Howes, ⟨%d0, %f0, %hf0, H0⟩, ⟨%d1, %f1, %hf1, H1⟩, ⟨%d2, %f2, %hf2, H2⟩, ⟨%d3, %f3, -, H3⟩, ⟨%d4, %f4, -, H4⟩⟩
  iapply row_run _ _ _ _ _ (Memref.whole cc0_scratch0) c (hstage0_0 _) (hstage0_1 _) (hstage0_2 _) (hstage0_3 _) (hstage0_4 _) (Memref.isWhole_whole _)
    f0 f1 f2 f3 f4 f6 (fun j => by rw [hf0]; exact hT c _) Set.univ
  isplitl [H0]; · iexact H0
  isplitl [H1]; · iexact H1
  isplitl [H2]; · iexact H2
  isplitl [H3]; · iexact H3
  isplitl [H4]; · iexact H4
  isplitl [H6]; · iexact H6
  iintro %g3 %g4 %g6 %hg3 %hg4 H0 H1 H2 H3 H4 H6
  isplitl [H6 HΦ]
  · isplitl [H6]; · iexists _; iexact H6
    iexact HΦ
  isplitl [Howes]; · iexact Howes
  rw [hf0, hf1, hf2] at hg3 hg4
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hg3
  iexists _; isplitr; swap; (· iexact H4); ipureintro; exact hg4

/-! ## The merge call -/

abbrev scB (c : Dev nD) : S32x4x128.Idx → F .f32 := ((cfg1.win 0).blk t1_0).view.read (Elt F) (V c main_v4)
abbrev tkB (c : Dev nD) : S32x4x128.Idx → BitVec 32 := ((cfg1.win 1).blk t1_0).view.read (Elt F) (V c main_v5)
abbrev hiB (c : Dev nD) : S32x4x50.Idx → BitVec 32 := ((cfg1.win 2).blk t1_0).view.read (Elt F) (V c main_v6)

def dat1 (c : Dev nD) : Dat τ (Elt F) Unit ℕ (UR sig nD τ) ℕ cfg1 c where
  A w := V c (Pipeline.arrRef spec1 w)
  after w _ := match w with
    | ⟨0, _⟩ => scB V c
    | ⟨1, _⟩ => tkB V c
    | ⟨2, _⟩ => hiB V c
    | ⟨3, _⟩ => outS (scB V c) (tkB V c)
    | ⟨4, _⟩ => outT (scB V c) (tkB V c)
    | ⟨5, _⟩ => outI (scB V c) (tkB V c) (hiB V c)
    | ⟨6, _⟩ => outS (scB V c) (tkB V c)
  Φ _ := Pipeline.scopedRest (Ix := Unit) (Name := ℕ) (U := UR sig nD τ) (Lvl := ℕ) (Val := Elt F) spec1 c
  q _ := fullShare
  owed _ := 0

theorem before1_0 (c : Dev nD) (d) : (dat1 V c).before 0 t1_0 d = scB V c :=
  ((dat1 V c).before_fetched 0 t1_0 (fetch1_0 t1_0) d).trans rfl
theorem before1_1 (c : Dev nD) (d) : (dat1 V c).before 1 t1_0 d = tkB V c :=
  ((dat1 V c).before_fetched 1 t1_0 (fetch1_1 t1_0) d).trans rfl
theorem before1_2 (c : Dev nD) (d) : (dat1 V c).before 2 t1_0 d = hiB V c :=
  ((dat1 V c).before_fetched 2 t1_0 (fetch1_2 t1_0) d).trans rfl

theorem obl1 (c : Dev nD) : BodyObligation (dat1 V c) (defs₀ (F := F)) 𝒱₀ () Set.univ := fun t => by
  obtain rfl := fin_N1 t
  rw [bigSep_W1, bigSep_W1]
  rw [show (dat1 V c).Φ t1_0.castSucc = Pipeline.scopedRest (Ix := Unit) (Name := ℕ) (U := UR sig nD τ) (Lvl := ℕ) (Val := Elt F) spec1 c from rfl,
    show (dat1 V c).Φ t1_0.succ = Pipeline.scopedRest (Ix := Unit) (Name := ℕ) (U := UR sig nD τ) (Lvl := ℕ) (Val := Elt F) spec1 c from rfl,
    show (dat1 V c).owesAt () t1_0.succ = (dat1 V c).owesAt () t1_0.castSucc from rfl]
  rw [show defs₀ (F := F) .tc cfg1.body (cfg1.bodyArgs t1_0 (cfg1.slots t1_0)) = bodyAt1 t1_0 from rfl, bodyAt1, merge_eq]
  have e0 := owns_pt (F := F) c (hstage1_0 0)
  have e1 := owns_pt (F := F) c (hstage1_1 0)
  have e2 := owns_pt (F := F) c (hstage1_2 0)
  have e3 := owns_pt (F := F) c (hstage1_3 0)
  have e4 := owns_pt (F := F) c (hstage1_4 0)
  have e5 := owns_pt (F := F) c (hstage1_5 0)
  have e6 := owns_pt (F := F) c (hstage1_6 0)
  show iprop(_ ∗ _ ∗ found (dat1 V c) t1_0 0 ∗ found (dat1 V c) t1_0 1 ∗ found (dat1 V c) t1_0 2 ∗ found (dat1 V c) t1_0 3
      ∗ found (dat1 V c) t1_0 4 ∗ found (dat1 V c) t1_0 5 ∗ found (dat1 V c) t1_0 6)
    ⊢ wp frame _ _ _ fun _ => iprop(_ ∗ _ ∗ left (dat1 V c) t1_0 0 ∗ left (dat1 V c) t1_0 1 ∗ left (dat1 V c) t1_0 2
      ∗ left (dat1 V c) t1_0 3 ∗ left (dat1 V c) t1_0 4 ∗ left (dat1 V c) t1_0 5 ∗ left (dat1 V c) t1_0 6)
  unfold found left
  rw [show (cfg1.win 0).stage (cfg1.slots t1_0 0) = stage1_0 0 from rfl, show (cfg1.win 1).stage (cfg1.slots t1_0 1) = stage1_1 0 from rfl,
    show (cfg1.win 2).stage (cfg1.slots t1_0 2) = stage1_2 0 from rfl, show (cfg1.win 3).stage (cfg1.slots t1_0 3) = stage1_3 0 from rfl,
    show (cfg1.win 4).stage (cfg1.slots t1_0 4) = stage1_4 0 from rfl, show (cfg1.win 5).stage (cfg1.slots t1_0 5) = stage1_5 0 from rfl,
    show (cfg1.win 6).stage (cfg1.slots t1_0 6) = stage1_6 0 from rfl]
  simp only [before1_0, before1_1, before1_2]
  simp only [e0, e1, e2, e3, e4, e5, e6]
  iintro ⟨HΦ, Howes, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩, ⟨%d6, %f6, -, H6⟩⟩
  iapply merge_run _ _ _ _ _ _ _ c (hstage1_0 0) (hstage1_1 0) (hstage1_2 0) (hstage1_3 0) (hstage1_4 0) (hstage1_5 0) (hstage1_6 0)
    f0 f1 f2 f3 f4 f5 f6 Set.univ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %g3 %g4 %g5 %g6 %hg3 %hg4 %hg5 %hg6 H0 H1 H2 H3 H4 H5 H6
  rw [hf0, hf1] at hg3 hg4 hg6
  rw [hf0, hf1, hf2] at hg5
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hg3
  isplitl [H4]; · iexists _; isplitr; swap; (· iexact H4); ipureintro; exact hg4
  isplitl [H5]; · iexists _; isplitr; swap; (· iexact H5); ipureintro; exact hg5
  iexists _; isplitr; swap; (· iexact H6); ipureintro; exact hg6

end Cert.Proof.Entry
-- ==== Proof.Run.lean ====
/- The whole program's run: every unscoped buffer ends at the last valuation, the regions' results in it as the two calls
   leave them, and every semaphore counter at zero. -/
module

public import proofs.«01_k».proof.Proof.Entry
public import Idealize.ShloMosaic.Lib.Pipeline.RegionsLoop

@[expose] public section

noncomputable section

namespace Cert.Proof.Entry

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)
open Cert.KernelIdeal Cert.KernelIdeal.Gen
open Cert.Proof.Row (RM)

variable {F : FTy → Type} [FloatOps F] [Named F]

/-- The unscoped buffers at every core. -/
abbrev Val' (F : FTy → Type) : Type := (c : Dev nD) → (b : Ref sig .tc) → Buf (Elt F) ((c : Thread nD τ).loc b)

variable (V W : Val' F)

/-- The two calls' proof data, entered at `V` and at `W`. -/
def pdats : (p : Fin 2) → (c : Dev nD) → Dat τ (Elt F) Unit ℕ (UR sig nD τ) ℕ (cfgs p) c
  | ⟨0, _⟩ => fun c => dat0 V c
  | ⟨1, _⟩ => fun c => dat1 W c

/-- What rides along: the core owes nothing. -/
abbrev rest (c : Dev nD) : sProp (RM F) := iprop(∃ O, owes (c : Thread nD τ) (0 : CellTallies nD τ sig Unit) O)

variable (V' : Val' F)

set_option backward.isDefEq.respectTransparency.types false in
/-- The row call's segment: entered at `V`, left at any valuation that has its two results and agrees with `V` elsewhere. -/
def reg0 (hT : TokOk V) (h3 : ∀ c, V' c main_v3_0 = (dat0 V c).arrAt 3 cfg0.N) (h4 : ∀ c, V' c main_v3_1 = (dat0 V c).arrAt 4 cfg0.N)
    (hne : ∀ c (b : Ref sig .tc), b ≠ main_v3_0 → b ≠ main_v3_1 → V' c b = V c b) :
    Pipeline.RegionSeg (pcfgs (F := F)) adm (pdats V W) () defs₀ 𝒱₀ L lv 0 where
  win := launch0.win.to₀
  block_pos := launch0.block_pos
  stage_whole := launch0.stage_whole
  K := PEmpty
  osem k := k.elim
  ho := Pipeline.OwnSemFacts.none _
  hbody c := (obl0 V hT c).loose
  hwaits := Pipeline.hwaits_of_owed_zero _ _ _ _ L lv 0 fun _ _ => rfl
  pre c := iprop(unscopedBufs c (V c) ∗ rest c)
  post c := iprop(unscopedBufs c (V' c) ∗ rest c)
  X _ := BI.emp
  Y _ := BI.emp
  Z c := iprop(Pipeline.unscopedRest (Ix := Unit) (Name := ℕ) (U := UR sig nD τ) (Lvl := ℕ) spec0 c (V c))
  hentry c := by
    rw [Pipeline.ownSems0_none]
    have hsplit := Pipeline.arrays_of_unscopedBufs (p := 0) (pcfgs (F := F)) adm (pdats V W) launch0.win launch0.arr_whole c
      ((pdats V W 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%O, HO⟩; iexists O; isplitr; · ipureintro; exact fun _ _ => Or.inl trivial
      iexact HO
    isplitr; · iempintro
    iexact Hrest
  hin c := by
    rw [show (pdats V W 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats V W 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats V W) ((pdats V W 0 c).share_full fun _ => rfl) (V c) (V' c) ((pdats V W 0 c).arrAt · cfg0.N)
      (fun w => by
        fin_cases w
        · exact ((pdats V W 0 c).arrAt_in 0 rfl _).trans (hne c main_v1 (by decide) (by decide)).symm
        · exact ((pdats V W 0 c).arrAt_in 1 rfl _).trans (hne c main_v2 (by decide) (by decide)).symm
        · exact ((pdats V W 0 c).arrAt_in 2 rfl _).trans (hne c main_v0 (by decide) (by decide)).symm
        · exact (h3 c).symm
        · exact (h4 c).symm)
      (fun b hb => hne c b (fun h => hb (h ▸ Finset.mem_image.mpr ⟨3, Finset.mem_univ _, rfl⟩))
        (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%O, -, HO⟩; iexists O; iexact HO

set_option backward.isDefEq.respectTransparency.types false in
/-- The merge call's segment: entered at `W`, left at any valuation that has its four results and agrees with `W` elsewhere. -/
def reg1 (h3 : ∀ c, V' c main_v7_0 = (dat1 W c).arrAt 3 cfg1.N) (h4 : ∀ c, V' c main_v7_1 = (dat1 W c).arrAt 4 cfg1.N)
    (h5 : ∀ c, V' c main_v7_2 = (dat1 W c).arrAt 5 cfg1.N) (h6 : ∀ c, V' c main_v7_3 = (dat1 W c).arrAt 6 cfg1.N)
    (hne : ∀ c (b : Ref sig .tc), b ≠ main_v7_0 → b ≠ main_v7_1 → b ≠ main_v7_2 → b ≠ main_v7_3 → V' c b = W c b) :
    Pipeline.RegionSeg (pcfgs (F := F)) adm (pdats V W) () defs₀ 𝒱₀ L lv 1 where
  win := launch1.win.to₀
  block_pos := launch1.block_pos
  stage_whole := launch1.stage_whole
  K := PEmpty
  osem k := k.elim
  ho := Pipeline.OwnSemFacts.none _
  hbody c := (obl1 W c).loose
  hwaits := Pipeline.hwaits_of_owed_zero _ _ _ _ L lv 1 fun _ _ => rfl
  pre c := iprop(unscopedBufs c (W c) ∗ rest c)
  post c := iprop(unscopedBufs c (V' c) ∗ rest c)
  X _ := BI.emp
  Y _ := BI.emp
  Z c := iprop(Pipeline.unscopedRest (Ix := Unit) (Name := ℕ) (U := UR sig nD τ) (Lvl := ℕ) spec1 c (W c))
  hentry c := by
    rw [Pipeline.ownSems0_none]
    have hsplit := Pipeline.arrays_of_unscopedBufs (p := 1) (pcfgs (F := F)) adm (pdats V W) launch1.win launch1.arr_whole c
      ((pdats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%O, HO⟩; iexists O; isplitr; · ipureintro; exact fun _ _ => Or.inl trivial
      iexact HO
    isplitr; · iempintro
    iexact Hrest
  hin c := by
    rw [show (pdats V W 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats V W 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats V W) ((pdats V W 1 c).share_full fun _ => rfl) (W c) (V' c) ((pdats V W 1 c).arrAt · cfg1.N)
      (fun w => by
        fin_cases w
        · exact ((pdats V W 1 c).arrAt_in 0 rfl _).trans (hne c main_v4 (by decide) (by decide) (by decide) (by decide)).symm
        · exact ((pdats V W 1 c).arrAt_in 1 rfl _).trans (hne c main_v5 (by decide) (by decide) (by decide) (by decide)).symm
        · exact ((pdats V W 1 c).arrAt_in 2 rfl _).trans (hne c main_v6 (by decide) (by decide) (by decide) (by decide)).symm
        · exact (h3 c).symm
        · exact (h4 c).symm
        · exact (h5 c).symm
        · exact (h6 c).symm)
      (fun b hb => hne c b (fun h => hb (h ▸ Finset.mem_image.mpr ⟨3, Finset.mem_univ _, rfl⟩))
        (fun h => hb (h ▸ Finset.mem_image.mpr ⟨4, Finset.mem_univ _, rfl⟩))
        (fun h => hb (h ▸ Finset.mem_image.mpr ⟨5, Finset.mem_univ _, rfl⟩))
        (fun h => hb (h ▸ Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%O, -, HO⟩; iexists O; iexact HO

/-! ## The regions' results, and the run -/

variable (m : (ℓ : Loc nD τ sig) → Buf (Elt F) ℓ)

/-- A valuation at every core, as unscoped buffers. -/
abbrev bufs (X : Dev nD → Valuation τ sig (Elt F)) : Val' F := fun c b => X c b

/-- What the row call leaves, by result. -/
def out2 (r : Ref sig .tc) (c : Dev nD) : Buf (Elt F) ((c : Thread nD τ).loc r) :=
  Function.update (Function.update (fun b => bufs (V1 m) c b) main_v3_0 ((dat0 (bufs (V1 m)) c).arrAt 3 cfg0.N)) main_v3_1
    ((dat0 (bufs (V1 m)) c).arrAt 4 cfg0.N) r

/-- The merge call's entry valuation. -/
abbrev V3' (c : Dev nD) : Valuation τ sig (Elt F) := V3 m (fun _ => out2 m) c

/-- What the merge call leaves, by result. -/
def out4 (r : Ref sig .tc) (c : Dev nD) : Buf (Elt F) ((c : Thread nD τ).loc r) :=
  Function.update (Function.update (Function.update (Function.update (fun b => bufs (V3' m) c b)
    main_v7_0 ((dat1 (bufs (V3' m)) c).arrAt 3 cfg1.N)) main_v7_1 ((dat1 (bufs (V3' m)) c).arrAt 4 cfg1.N))
    main_v7_2 ((dat1 (bufs (V3' m)) c).arrAt 5 cfg1.N)) main_v7_3 ((dat1 (bufs (V3' m)) c).arrAt 6 cfg1.N) r

/-- Both calls' results. -/
def outs : Outs (F := F)
  | 2 => out2 m
  | _ => out4 m

theorem V3_outs (c : Dev nD) : V3 m (outs m) c = V3' m c := rfl

theorem out2_at0 (c : Dev nD) : out2 m main_v3_0 c = (dat0 (bufs (V1 m)) c).arrAt 3 cfg0.N := by
  unfold out2
  rw [Function.update_of_ne (by decide), Function.update_self]
theorem out2_at1 (c : Dev nD) : out2 m main_v3_1 c = (dat0 (bufs (V1 m)) c).arrAt 4 cfg0.N := by
  unfold out2
  rw [Function.update_self]
theorem out4_at0 (c : Dev nD) : out4 m main_v7_0 c = (dat1 (bufs (V3' m)) c).arrAt 3 cfg1.N := by
  unfold out4
  rw [Function.update_of_ne (by decide), Function.update_of_ne (by decide), Function.update_of_ne (by decide), Function.update_self]
theorem out4_at1 (c : Dev nD) : out4 m main_v7_1 c = (dat1 (bufs (V3' m)) c).arrAt 4 cfg1.N := by
  unfold out4
  rw [Function.update_of_ne (by decide), Function.update_of_ne (by decide), Function.update_self]
theorem out4_at2 (c : Dev nD) : out4 m main_v7_2 c = (dat1 (bufs (V3' m)) c).arrAt 5 cfg1.N := by
  unfold out4
  rw [Function.update_of_ne (by decide), Function.update_self]
theorem out4_at3 (c : Dev nD) : out4 m main_v7_3 c = (dat1 (bufs (V3' m)) c).arrAt 6 cfg1.N := by
  unfold out4
  rw [Function.update_self]

theorem out2_0 (c : Dev nD) : V2 m (outs m) c main_v3_0 = (dat0 (bufs (V1 m)) c).arrAt 3 cfg0.N :=
  ((Function.update_of_ne (StableHlo.devRef_ne_of_ne (by decide : main_v3_0 ≠ main_v3_1)) _ _).trans
    (Function.update_self _ _ _)).trans (out2_at0 m c)
theorem out2_1 (c : Dev nD) : V2 m (outs m) c main_v3_1 = (dat0 (bufs (V1 m)) c).arrAt 4 cfg0.N :=
  (Function.update_self _ _ _).trans (out2_at1 m c)
theorem out4_0 (c : Dev nD) : V4 m (outs m) c main_v7_0 = (dat1 (bufs (V3' m)) c).arrAt 3 cfg1.N :=
  ((Function.update_of_ne (StableHlo.devRef_ne_of_ne (by decide : main_v7_0 ≠ main_v7_3)) _ _).trans
    ((Function.update_of_ne (StableHlo.devRef_ne_of_ne (by decide : main_v7_0 ≠ main_v7_2)) _ _).trans
    ((Function.update_of_ne (StableHlo.devRef_ne_of_ne (by decide : main_v7_0 ≠ main_v7_1)) _ _).trans
    (Function.update_self _ _ _)))).trans (out4_at0 m c)
theorem out4_1 (c : Dev nD) : V4 m (outs m) c main_v7_1 = (dat1 (bufs (V3' m)) c).arrAt 4 cfg1.N :=
  ((Function.update_of_ne (StableHlo.devRef_ne_of_ne (by decide : main_v7_1 ≠ main_v7_3)) _ _).trans
    ((Function.update_of_ne (StableHlo.devRef_ne_of_ne (by decide : main_v7_1 ≠ main_v7_2)) _ _).trans
    (Function.update_self _ _ _))).trans (out4_at1 m c)
theorem out4_2 (c : Dev nD) : V4 m (outs m) c main_v7_2 = (dat1 (bufs (V3' m)) c).arrAt 5 cfg1.N :=
  ((Function.update_of_ne (StableHlo.devRef_ne_of_ne (by decide : main_v7_2 ≠ main_v7_3)) _ _).trans
    (Function.update_self _ _ _)).trans (out4_at2 m c)
theorem out4_3 (c : Dev nD) : V4 m (outs m) c main_v7_3 = (dat1 (bufs (V3' m)) c).arrAt 6 cfg1.N :=
  (Function.update_self _ _ _).trans (out4_at3 m c)

/-- The row call's segment in the run. -/
def R0 (hT : TokOk (bufs (V1 m))) : Pipeline.RegionSeg (pcfgs (F := F)) adm (pdats (bufs (V1 m)) (bufs (V3' m))) () defs₀ 𝒱₀ L lv 0 :=
  reg0 (bufs (V1 m)) (bufs (V3' m)) (bufs (V2 m (outs m))) hT (out2_0 m) (out2_1 m)
    fun c b h0 h1 => V2_of m (outs m) c b (by simp [h0, h1])

/-- The merge call's segment in the run. -/
def R1 : Pipeline.RegionSeg (pcfgs (F := F)) adm (pdats (bufs (V1 m)) (bufs (V3' m))) () defs₀ 𝒱₀ L lv 1 :=
  reg1 (bufs (V1 m)) (bufs (V3' m)) (bufs (V4 m (outs m))) (out4_0 m) (out4_1 m) (out4_2 m) (out4_3 m)
    fun c b h0 h1 h2 h3 => V4_of m (outs m) c b (by simp [h0, h1, h2, h3])

/-- The launch's ghost state: the pipelines' tokens. -/
abbrev u₀ : UR sig nD τ := initOf (Pipeline.cells cfgs cellOf_inj) (Pipeline.launchToks cfgs cellOf_inj)

set_option backward.isDefEq.respectTransparency.types false in
/-- **The run.** Under tokens in range the program ends with every unscoped buffer at the last valuation and every
    semaphore counter at zero. -/
theorem run_main (ρ : Dev nD → PrngReg) (hT : TokOk (bufs (V1 m))) :
    θ_run defs (onTc (τ := τ) (main (F := F))) ⟨m, fun _ => 0, ρ⟩ (fun r =>
      (∀ c : Dev nD, ∀ b ∈ Pipeline.ucRefs τ sig, r.2.mem (c, b) = V5 m (outs m) c b) ∧ r.2.sem = fun _ => 0) := by
  have hE0 : iprop((bigSep Finset.univ fun c : Dev nD => iprop(unscopedSems0 c ∗ owes (c : Thread nD τ) (0 : CellTallies nD τ sig Unit) ∅
        ∗ Pipeline.launchCred (fun _ => 0) c ∗ prngReg c (ρ c) ∗ BI.emp)) ∗ levAts L lv)
      ⊢ (|={Set.univ}=> bigSep Finset.univ (rest (F := F)) : sProp (RM F)) := by
    have h1 : ∀ c : Dev nD, (iprop(unscopedSems0 c ∗ owes (c : Thread nD τ) (0 : CellTallies nD τ sig Unit) ∅
        ∗ Pipeline.launchCred (fun _ => 0) c ∗ prngReg c (ρ c) ∗ BI.emp) : sProp (RM F)) ⊢ rest c := fun c => by
      iintro ⟨-, HO, -⟩
      iexists ∅
      iexact HO
    have h : (bigSep Finset.univ fun c : Dev nD => iprop(unscopedSems0 c ∗ owes (c : Thread nD τ) (0 : CellTallies nD τ sig Unit) ∅
        ∗ Pipeline.launchCred (fun _ => 0) c ∗ prngReg c (ρ c) ∗ BI.emp)) ⊢ (bigSep Finset.univ (rest (F := F)) : sProp (RM F)) :=
      bigSep_mono fun c _ => h1 c
    iintro ⟨H, -⟩
    ihave H' := h $$ H
    imodintro
    iexact H'
  have hu₀ : (ownU (u₀ : UR sig nD τ) : sProp (RM F)) ⊢ |={Set.univ}=> iprop(BI.own ((emb₁ : Emb _ (RM F)) (initOf (Pipeline.cells cfgs cellOf_inj) (Pipeline.launchToks cfgs cellOf_inj)))
      ∗ bigSep Finset.univ fun _ : Dev nD => BI.emp) := by
    iintro Hu; imodintro; isplitl [Hu]
    · iapply (show (ownU _ : sProp (RM F)) ⊢ BI.own (emb₁ (initOf (Pipeline.cells cfgs cellOf_inj) (Pipeline.launchToks cfgs cellOf_inj))) from .rfl); iexact Hu
    · iapply (show (BI.emp : sProp (RM F)) ⊢ bigSep Finset.univ (fun _ : Dev nD => BI.emp) from by rw [BI.bigSep_emp_const])
      iempintro
  have hub : ∀ (X : Valuation τ sig (Elt F)) (c : Dev nD), iprop(StableHlo.held (c : Thread nD τ) (Pipeline.ucRefs τ sig) X ∗ rest c)
      = (iprop(unscopedBufs c (fun b => X b) ∗ rest c) : sProp (RM F)) := fun X c => by
    rw [← Pipeline.unscopedBufs_held (Ix := Unit) (Name := ℕ) (U := UR sig nD τ) (Lvl := ℕ) c X]
  refine Pipeline.θ_run_regions_kit_dev_sems (pcfgs (F := F)) adm (pdats (bufs (V1 m)) (bufs (V3' m))) () cellOf_inj emb₁ defs₀ 𝒱₀ L lv m ρ main
    (segs m (outs m) 𝒱₀ L lv (fun _ => rest) () (pdats (bufs (V1 m)) (bufs (V3' m))) (R0 m hT) (R1 m))
    (fun c Q => by
      rewrite [main_chain c, Seg.run_eq_chain,
        show (segs m (outs m) 𝒱₀ L lv (fun _ => rest) () (pdats (bufs (V1 m)) (bufs (V3' m))) (R0 m hT) (R1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => BI.emp) u₀ hu₀
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨.rfl, Entails.of_eq (hub _ c), Entails.of_eq (hub _ c).symm, Entails.of_eq (hub _ c), Entails.of_eq (hub _ c).symm, .rfl⟩)
    (hinit := ?_) (QY := fun c s => ∀ b ∈ Pipeline.ucRefs τ sig, s.mem (c, b) = V5 m (outs m) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ BI.emp))
            : sProp (RM F)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro; exact h
    · iexact HSI

end Cert.Proof.Entry
-- ==== Proof.Pre.lean ====
/- What the tokens' precondition says of the argument arrays: every token is a column number. -/
module

public import proofs.«01_k».proof.Defs
public import proofs.«01_k».proof.Proof.Gen.Pre_tokens_in_range
public import Idealize.ShloMosaic.Lib.Affine

@[expose] public section

noncomputable section

namespace Cert.Proof.Pre

open Idealize.ShloMosaic

/-- A conjunction folded over a list is true only if every conjunct is. -/
theorem foldl_andi {α : Type} (f : α → BitVec 1) : ∀ (l : List α) (a : BitVec 1),
    l.foldl (fun r n => IntOp.andi r (f n)) a = 1#1 → a = 1#1 ∧ ∀ n ∈ l, f n = 1#1
  | [], a, h => ⟨h, fun _ h => absurd h (by simp)⟩
  | n :: l, a, h => by
    obtain ⟨h1, h2⟩ := foldl_andi f l _ h
    obtain ⟨ha, hn⟩ := IntOp.andi_eq_one.mp h1
    exact ⟨ha, fun k hk => by rcases List.mem_cons.mp hk with rfl | hk; exacts [hn, h2 k hk]⟩

/-- The conjunction of a whole array is true only if every element is. -/
theorem of_reduce {s t u : Shape} {axes : List (Fin s.rank)} (x : s.Idx → BitVec 1) (init : u.Idx → BitVec 1)
    (h : s.ReducesTo axes t) (hu : 0 < u.numel) (j : t.Idx) (ht : ∀ i, h.drop i = j)
    (e : Host.reduce IntOp.andi x init h hu j = 1#1) (i : s.Idx) : x i = 1#1 := by
  have := (foldl_andi (fun n => x (s.rowMajor.symm n)) _ _ e).2 (s.rowMajor i) (List.mem_filter.mpr ⟨List.mem_finRange _, by simp [ht]⟩)
  simpa using this

theorem toNat_of_range (x : BitVec 32) (h : IntOp.andi (IntOp.cmpi .sge x 0#32) (IntOp.cmpi .slt x 32768#32) = 1#1) : x.toNat < 32768 := by
  obtain ⟨h1, h2⟩ := IntOp.andi_eq_one.mp h
  rw [IntOp.cmpi_sge] at h1
  rw [IntOp.cmpi_slt] at h2
  have e1 : (0#32 : BitVec 32).toInt = 0 := by decide
  have e2 : (32768#32 : BitVec 32).toInt = 32768 := by decide
  rw [e1] at h1; rw [e2] at h2
  have := BitVec.toInt_eq_toNat_cond x
  split at this <;> omega

/-- Under the tokens' precondition every token is below the vocabulary's size. -/
theorem tokens_of_pre {F : FTy → Type} [FloatOps F] [Cert.Pre_tokens_in_range.Facts] (a0 : FVec F Pre_tokens_in_range.S128x32768 .f32)
    (a1 : FVec F Pre_tokens_in_range.S128 .f32) (a2 : IVec Pre_tokens_in_range.S128x50 32)
    (h : Pre_tokens_in_range.fn a0 a1 a2 = fun _ => 1#1) (i : Pre_tokens_in_range.S128x50.Idx) : (a2 i).toNat < 32768 :=
  toNat_of_range _ (of_reduce _ _ _ _ (Shape.Idx.first Pre_tokens_in_range.Facts.h_S_) (fun _ => funext fun a => a.elim0) (congrFun h _) i)

end Cert.Proof.Pre
-- ==== Proof.Frames.lean ====
/- The frame claims: both programs' runs end with the arguments unchanged and every semaphore counter at zero. -/
module

public import proofs.«01_k».proof.Proof.Run
public import proofs.«01_k».proof.Proof.Pre
public import proofs.«01_k».proof.Proof.Gen.ReferenceIdeal.Run
public import proofs.«01_k».proof.Proof.Gen.Kernel
public import proofs.«01_k».proof.Proof.Gen.KernelIdeal
public import Idealize.ShloMosaic.Lib.Quiescent

@[expose] public section

noncomputable section

namespace Cert.Proof.Frames

open Idealize.ShloMosaic Idealize.ShloMosaic.ValueIdx Idealize.ShloMosaic.StableHlo
open Idealize.ShloMosaic.TcCoe Idealize.SL.Sem
open Cert.KernelIdeal Cert.KernelIdeal.Gen Cert.Proof.Entry

section Values

variable {F : FTy → Type} [FloatOps F] [Named F]
variable (m : (ℓ : Loc nD τ sig) → Buf (Elt F) ℓ) (c : Dev nD)

theorem V1_v0 : V1 m c main_v0 = shapeCast _ (m ((c.tc : Thread nD τ).loc main_arg0)) shapeCasts_S128x32768_S128x256x128 := by
  unfold V1; after_results_simp; rfl
theorem V1_v1 : V1 m c main_v1 = shapeCast _ (m ((c.tc : Thread nD τ).loc main_arg2)) shapeCasts_S128x50_S128x1x50 := by
  unfold V1; after_results_simp; rfl
theorem V1_v2 : V1 m c main_v2 = shapeCast _ (m ((c.tc : Thread nD τ).loc main_arg1)) shapeCasts_S128_S128x1x1 := by
  unfold V1; after_results_simp; rfl

theorem V3_v4 (outs : Outs (F := F)) : V3 m outs c main_v4 = shapeCast _ (V2 m outs c main_v3_0) shapeCasts_S128x1x128_S32x4x128 := by
  unfold V3; after_results_simp; rfl
theorem V3_v5 (outs : Outs (F := F)) : V3 m outs c main_v5 = shapeCast _ (V2 m outs c main_v3_1) shapeCasts_S128x1x128_S32x4x128 := by
  unfold V3; after_results_simp; rfl
theorem V3_v6 (outs : Outs (F := F)) : V3 m outs c main_v6 = shapeCast _ (V2 m outs c main_arg2) shapeCasts_S128x50_S32x4x50 := by
  unfold V3; after_results_simp; rfl
theorem V2_arg2 (outs : Outs (F := F)) : V2 m outs c main_arg2 = m ((c.tc : Thread nD τ).loc main_arg2) :=
  (V2_of m outs c main_arg2 (by decide)).trans (V1_of m c main_arg2 (by decide))

theorem V5_v8 (outs : Outs (F := F)) : V5 m outs c main_v8 = shapeCast _ (V4 m outs c main_v7_2) shapeCasts_S32x4x51_S128x51 := by
  unfold V5; after_results_simp; rfl
theorem V5_v9 (outs : Outs (F := F)) : V5 m outs c main_v9 = shapeCast _ (V4 m outs c main_v7_3) shapeCasts_S32x4_S128 := by
  unfold V5; after_results_simp; rfl
theorem V5_v7_0 (outs : Outs (F := F)) : V5 m outs c main_v7_0 = V4 m outs c main_v7_0 := V5_of m outs c main_v7_0 (by decide)
theorem V5_v7_1 (outs : Outs (F := F)) : V5 m outs c main_v7_1 = V4 m outs c main_v7_1 := V5_of m outs c main_v7_1 (by decide)

/-- The row call finds its tokens in range when the argument's are. -/
theorem tokOk (h : ∀ (c : Dev nD) (i : S128x50.Idx), (m ((c.tc : Thread nD τ).loc main_arg2) i : BitVec 32).toNat < 32768) : TokOk (bufs (V1 m)) :=
  fun c i => by
    show (V1 m c main_v1 i : BitVec 32).toNat < 32768
    rw [V1_v1 m c]
    exact h c _

/-- The run, its end read at one held buffer. -/
theorem read_end {s : MemSt nD τ sig (Elt F)} (h : ∀ b ∈ Pipeline.ucRefs τ sig, s.mem (c, b) = V5 m (outs m) c b) (r : Ref sig .tc)
    (hr : (Proc.devRef .tc r : DevRef τ sig) ∈ Pipeline.ucRefs τ sig) : s.mem ((c.tc : Thread nD τ).loc r) = V5 m (outs m) c r := h _ hr

theorem uc_arg0 : (Proc.devRef .tc main_arg0 : DevRef τ sig) ∈ Pipeline.ucRefs τ sig := Finset.mem_filter.mpr ⟨devRef_mem_tcRefs main_arg0, by decide⟩
theorem uc_arg1 : (Proc.devRef .tc main_arg1 : DevRef τ sig) ∈ Pipeline.ucRefs τ sig := Finset.mem_filter.mpr ⟨devRef_mem_tcRefs main_arg1, by decide⟩
theorem uc_arg2 : (Proc.devRef .tc main_arg2 : DevRef τ sig) ∈ Pipeline.ucRefs τ sig := Finset.mem_filter.mpr ⟨devRef_mem_tcRefs main_arg2, by decide⟩
theorem uc_v7_0 : (Proc.devRef .tc main_v7_0 : DevRef τ sig) ∈ Pipeline.ucRefs τ sig := Finset.mem_filter.mpr ⟨devRef_mem_tcRefs main_v7_0, by decide⟩
theorem uc_v7_1 : (Proc.devRef .tc main_v7_1 : DevRef τ sig) ∈ Pipeline.ucRefs τ sig := Finset.mem_filter.mpr ⟨devRef_mem_tcRefs main_v7_1, by decide⟩
theorem uc_v8 : (Proc.devRef .tc main_v8 : DevRef τ sig) ∈ Pipeline.ucRefs τ sig := Finset.mem_filter.mpr ⟨devRef_mem_tcRefs main_v8, by decide⟩
theorem uc_v9 : (Proc.devRef .tc main_v9 : DevRef τ sig) ∈ Pipeline.ucRefs τ sig := Finset.mem_filter.mpr ⟨devRef_mem_tcRefs main_v9, by decide⟩

/-- The run's frame: arguments unchanged, counters at zero. -/
theorem frame (ρ : Dev nD → PrngReg) (hT : TokOk (bufs (V1 m))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c _ uc_arg0).trans (V5_main_arg0 m _ c), (h.1 c _ uc_arg1).trans (V5_main_arg1 m _ c),
    (h.1 c _ uc_arg2).trans (V5_main_arg2 m _ c)⟩, h.2⟩) (run_main m ρ hT)

end Values

theorem quiescent_ideal : Cert.quiescent_KernelIdeal (hKernelIdeal := Cert.KernelIdeal.Gen.facts) (hPre_tokens_in_range := Cert.Pre_tokens_in_range.Gen.facts) :=
  fun m g h => frame m g (tokOk m fun c i => Pre.tokens_of_pre _ _ _ (h c) i)

/-- The trivial reading of a named constant at the machine's floats: the literal it stands for. -/
local instance namedBits : Named Bits := ⟨fun _ _ _ b => Scalar.ofBits _ b⟩

/-- The same frame, at the printed kernel's own names. -/
theorem quiescent_named : ∀ (m : (ℓ : Loc nD τ sig) → Buf (Elt Bits) ℓ) (g : Dev nD → PrngReg),
    (∀ c : Dev nD, Cert.Pre_tokens_in_range.fn (F := Bits) (m ((c.tc : Thread nD τ).loc main_arg0)) (m ((c.tc : Thread nD τ).loc main_arg1))
      (m ((c.tc : Thread nD τ).loc main_arg2)) = fun _ => 1#1) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  fun m g h => frame m g (tokOk m fun c i => Pre.tokens_of_pre _ _ _ (h c) i)

theorem same_statement : Cert.quiescent_Kernel (hKernel := Cert.Kernel.Gen.facts) (hPre_tokens_in_range := Cert.Pre_tokens_in_range.Gen.facts)
    = (∀ (m : (ℓ : Loc nD τ sig) → Buf (Elt Bits) ℓ) (g : Dev nD → PrngReg),
    (∀ c : Dev nD, Cert.Pre_tokens_in_range.fn (F := Bits) (m ((c.tc : Thread nD τ).loc main_arg0)) (m ((c.tc : Thread nD τ).loc main_arg1))
      (m ((c.tc : Thread nD τ).loc main_arg2)) = fun _ => 1#1) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)) := by
  sl_kernel_rfl

/-- The two printed programs differ in one constant's spelling, which at the machine's floats is the same word. -/
theorem quiescent_kernel : Cert.quiescent_Kernel (hKernel := Cert.Kernel.Gen.facts) (hPre_tokens_in_range := Cert.Pre_tokens_in_range.Gen.facts) :=
  same_statement.mpr quiescent_named

theorem quiescent_reference : Cert.quiescent_ReferenceIdeal (hReferenceIdeal := Cert.ReferenceIdeal.Gen.facts) :=
  fun m ρ _ => (θ_run Cert.ReferenceIdeal.defs _ _).mono (fun r h => ⟨fun c => (h c).2.2.2.2, sem_eq_zero_of_no_sems (by decide) r.2⟩)
    (Cert.ReferenceIdeal.Value.run (F := Ideal) m ρ)

/-- The table gives the named constant the value of the reciprocal of the penalty's literal. -/
theorem preserves : Cert.preserves_Kernel_KernelIdeal :=
  IdealRules.named_const.statement Cert.KernelIdeal.κ "inv_rep" .f32 0x3F555555#32 (((5033165 / 4194304)⁻¹ : ℝ) : EReal) rfl

end Cert.Proof.Frames
-- ==== Proof.PreFinite.lean ====
/- What the full precondition says of the argument arrays: every float is a real and every token a column number; and the
   frame claims under it. -/
module

public import proofs.«01_k».proof.Proof.Frames
public import proofs.«01_k».proof.Proof.Gen.Pre_finite_and_in_range

@[expose] public section

noncomputable section

namespace Cert.Proof.Pre

open Idealize.ShloMosaic

open Pre_finite_and_in_range in
/-- The full precondition's three conjuncts, array by array. -/
theorem split_pre {F : FTy → Type} [FloatOps F] [Cert.Pre_finite_and_in_range.Facts] (a0 : FVec F S128x32768 .f32)
    (a1 : FVec F S128 .f32) (a2 : IVec S128x50 32) (h : Pre_finite_and_in_range.fn a0 a1 a2 = fun _ => 1#1) :
    (∀ i, FloatOps.cmpf .olt (FloatOps.hostAbsf (a0 i)) (FloatOps.ofBits .f32 0x7F800000#32) = 1#1)
    ∧ (∀ i, FloatOps.cmpf .olt (FloatOps.hostAbsf (a1 i)) (FloatOps.ofBits .f32 0x7F800000#32) = 1#1)
    ∧ ∀ i, (a2 i).toNat < 32768 := by
  have e := congrFun h (Shape.Idx.first Pre_finite_and_in_range.Facts.h_S_)
  obtain ⟨e1, e2⟩ := IntOp.andi_eq_one.mp e
  obtain ⟨e3, e4⟩ := IntOp.andi_eq_one.mp e1
  exact ⟨of_reduce _ _ _ _ _ (fun _ => funext fun a => a.elim0) e3, of_reduce _ _ _ _ _ (fun _ => funext fun a => a.elim0) e4,
    fun i => toNat_of_range _ (of_reduce _ _ _ _ _ (fun _ => funext fun a => a.elim0) e2 i)⟩

/-- The pattern of `+∞` is the top extended real. -/
theorem ofBits_inf : (FloatOps.ofBits .f32 0x7F800000#32 : Ideal .f32) = (⊤ : EReal) := by
  show Ideal.ofBits .f32 0x7F800000#32 = (⊤ : EReal)
  simp [Ideal.ofBits, Ideal.ieee]

/-- A float whose magnitude is below `+∞` is a real. -/
theorem real_of_abs (x : Ideal .f32) (h : FloatOps.cmpf .olt (FloatOps.hostAbsf x) (FloatOps.ofBits .f32 0x7F800000#32) = 1#1) :
    ∃ r : ℝ, x = (r : EReal) := by
  rw [ofBits_inf] at h
  have h' : max (x : EReal) (-x) < ⊤ := by
    by_contra hn
    have : FloatOps.cmpf .olt (FloatOps.hostAbsf x) (⊤ : EReal) = 0#1 := by
      show BitVec.ofBool (decide (max (x : EReal) (-x) < ⊤)) = 0#1
      rw [decide_eq_false hn]; rfl
    rw [this] at h
    exact absurd h (by decide)
  have h1 : (x : EReal) ≠ ⊤ := fun e => by rw [e] at h'; simp at h'
  have h2 : (x : EReal) ≠ ⊥ := fun e => by rw [e] at h'; simp at h'
  exact ⟨EReal.toReal x, (EReal.coe_toReal h1 h2).symm⟩

end Cert.Proof.Pre

namespace Cert.Proof.Frames

open Idealize.ShloMosaic Cert.KernelIdeal Cert.KernelIdeal.Gen

theorem quiescent_ideal_finite : Cert.quiescent_KernelIdeal_pre_finite_and_in_range (hKernelIdeal := Cert.KernelIdeal.Gen.facts)
    (hPre_finite_and_in_range := Cert.Pre_finite_and_in_range.Gen.facts) :=
  fun m g h => frame m g (tokOk m fun c i => (Pre.split_pre _ _ _ (h c)).2.2 i)

theorem quiescent_reference_finite : Cert.quiescent_ReferenceIdeal_pre_finite_and_in_range (hReferenceIdeal := Cert.ReferenceIdeal.Gen.facts)
    (hPre_finite_and_in_range := Cert.Pre_finite_and_in_range.Gen.facts) :=
  fun m ρ _ => quiescent_reference m ρ trivial

end Cert.Proof.Frames
-- ==== Proof.Order.lean ====
/- The order both programs pick by: a greater entry first, equal entries by index. An entry's rank is the number of
   entries before it. Taking the best of what is left, `n` times over, takes the entries of ranks `0` to `n - 1`, and a
   stable sort puts the entry of rank `k` at place `k`. -/
module

public import Idealize.ShloMosaic.Lib.SortFacts
public import Mathlib.Order.Interval.Finset.Fin
public import Mathlib.Data.Fintype.Card

@[expose] public section

namespace Cert.Proof.Order

open Idealize.ShloMosaic
open scoped Classical

variable {n : ℕ} {α : Type} [LinearOrder α] (Y : Fin n → α)

/-- Entry `j` comes before entry `i`. -/
def Before (j i : Fin n) : Prop := Y i < Y j ∨ (Y j = Y i ∧ j < i)

variable {Y}

theorem Before.irrefl {i : Fin n} : ¬ Before Y i i := by
  rintro (h | ⟨-, h⟩) <;> exact lt_irrefl _ h

theorem Before.trans {i j k : Fin n} (h : Before Y i j) (h' : Before Y j k) : Before Y i k := by
  rcases h with h | ⟨h, g⟩ <;> rcases h' with h' | ⟨h', g'⟩
  · exact .inl (h'.trans h)
  · exact .inl (h' ▸ h)
  · exact .inl (h ▸ h')
  · exact .inr ⟨h.trans h', g.trans g'⟩

theorem Before.asymm {i j : Fin n} (h : Before Y i j) : ¬ Before Y j i := fun h' => (h.trans h').irrefl

theorem Before.total {i j : Fin n} (h : i ≠ j) : Before Y i j ∨ Before Y j i := by
  rcases lt_trichotomy (Y i) (Y j) with g | g | g
  · exact .inr (.inl g)
  · rcases lt_or_gt_of_ne h with q | q
    · exact .inl (.inr ⟨g, q⟩)
    · exact .inr (.inr ⟨g.symm, q⟩)
  · exact .inl (.inl g)

variable (Y)

/-- The number of entries before `i`. -/
noncomputable def rank (i : Fin n) : ℕ := (Finset.univ.filter (Before Y · i)).card

variable {Y}

theorem rank_lt {i j : Fin n} (h : Before Y i j) : rank Y i < rank Y j := by
  refine Finset.card_lt_card ⟨fun k hk => ?_, fun hs => ?_⟩
  · simp only [Finset.mem_filter, Finset.mem_univ, true_and] at hk ⊢
    exact hk.trans h
  · have := hs (Finset.mem_filter.mpr ⟨Finset.mem_univ i, h⟩)
    exact Before.irrefl (Finset.mem_filter.mp this).2

/-- One entry at most has a given rank. -/
theorem rank_inj {i j : Fin n} (h : rank Y i = rank Y j) : i = j := by
  by_contra hne
  rcases Before.total (Y := Y) hne with g | g <;> have := rank_lt g <;> omega

theorem before_of_rank_lt {i j : Fin n} (h : rank Y i < rank Y j) : Before Y i j := by
  rcases eq_or_ne i j with rfl | hne
  · omega
  · rcases Before.total (Y := Y) hne with g | g
    · exact g
    · have := rank_lt g; omega

/-- What comes before a taken entry is taken. -/
def Down (Y : Fin n → α) (P : Finset (Fin n)) : Prop := ∀ i ∈ P, ∀ j, Before Y j i → j ∈ P

theorem down_empty : Down Y ∅ := fun i hi => absurd hi (Finset.notMem_empty i)

/-- The best of the entries not taken has as its rank the number of the taken ones. -/
theorem rank_greedy {P : Finset (Fin n)} (hP : Down Y P) {i : Fin n} (hi : i ∉ P)
    (hb : ∀ j, j ∉ P → j ≠ i → Before Y i j) : rank Y i = P.card := by
  unfold rank
  congr 1
  ext j
  simp only [Finset.mem_filter, Finset.mem_univ, true_and]
  constructor
  · intro h
    by_contra hj
    rcases eq_or_ne j i with rfl | hne
    · exact h.irrefl
    · exact h.asymm (hb j hj hne)
  · intro hj
    have hne : j ≠ i := fun h => hi (h ▸ hj)
    rcases Before.total (Y := Y) hne with g | g
    · exact g
    · exact absurd (hP j hj i g) hi

theorem down_insert {P : Finset (Fin n)} (hP : Down Y P) {i : Fin n} (hi : i ∉ P)
    (hb : ∀ j, j ∉ P → j ≠ i → Before Y i j) : Down Y (insert i P) := by
  intro k hk j hj
  rcases Finset.mem_insert.mp hk with rfl | hk
  · by_contra h
    simp only [Finset.mem_insert, not_or] at h
    exact hj.asymm (hb j h.2 h.1)
  · exact Finset.mem_insert_of_mem (hP k hk j hj)

/-! ## The stable sort -/

variable (Y)

/-- The order as a Boolean. -/
noncomputable def bef (j i : Fin n) : Bool := decide (Before Y j i)

variable {Y}

theorem mem_stableSort {ι : Type} (R : ι → ι → Bool) (l : List ι) (a : ι) : a ∈ stableSort R l ↔ a ∈ l :=
  (perm_stableSort R l).mem_iff

/-- On an increasing list a stable sort by the entries is the sort by the strict order. -/
theorem stableSort_eq (R : Fin n → Fin n → Bool) (hR : ∀ j i, R j i = true ↔ Y i < Y j) (l : List (Fin n))
    (hl : l.Pairwise (· < ·)) : stableSort R l = stableSort (bef Y) l := by
  induction l with
  | nil => rfl
  | cons a l ih =>
    rw [List.pairwise_cons] at hl
    show insertBefore R a (stableSort R l) = insertBefore (bef Y) a (stableSort (bef Y) l)
    rw [ih hl.2]
    refine insertBefore_congr _ _ _ _ fun b hb => ?_
    have hab : a < b := hl.1 b ((mem_stableSort _ _ _).mp hb)
    rw [Bool.eq_iff_iff, hR, bef, decide_eq_true_iff]
    constructor
    · exact .inl
    · rintro (h | ⟨-, h⟩)
      · exact h
      · exact absurd h (lt_asymm hab)

theorem bef_false {a b : Fin n} : bef Y a b = false ↔ ¬ Before Y a b := by
  rw [bef, decide_eq_false_iff_not]

theorem sortedFrom_eq (R : Fin n → Fin n → Bool) (hR : ∀ j i, R j i = true ↔ Y i < Y j) :
    sortedFrom R = sortedFrom (bef Y) := by
  funext k
  unfold sortedFrom
  have h : sortPositions n R = sortPositions n (bef Y) := stableSort_eq R hR _ (List.pairwise_lt_finRange n)
  rw [List.get_of_eq h]
  rfl

theorem bef_sorted (i j : Fin n) (hij : i < j) : Before Y (sortedFrom (bef Y) i) (sortedFrom (bef Y) j) := by
  have h := sortedFrom_noInversion (bef Y) (bef Y)
    (fun a b h => bef_false.mpr (of_decide_eq_true h).asymm) (fun _ _ h => h)
    (fun a b c h h' => by
      rw [bef_false] at h h' ⊢
      intro g
      rcases eq_or_ne a b with rfl | hab
      · exact h' g
      rcases eq_or_ne b c with rfl | hbc
      · exact h g
      exact (((Before.total hab).resolve_left h).trans g).asymm ((Before.total hbc).resolve_left h')) i j hij
  have hne : sortedFrom (bef Y) i ≠ sortedFrom (bef Y) j := fun q => hij.ne (sortedFrom_injective _ q)
  exact (Before.total hne).resolve_right (bef_false.mp h)

/-- A stable sort by the entries puts at place `k` the entry of rank `k`. -/
theorem rank_sortedFrom (R : Fin n → Fin n → Bool) (hR : ∀ j i, R j i = true ↔ Y i < Y j) (k : Fin n) :
    rank Y (sortedFrom R k) = k.val := by
  rw [sortedFrom_eq R hR]
  have h : (Finset.univ.filter (Before Y · (sortedFrom (bef Y) k))) = (Finset.Iio k).map ⟨_, sortedFrom_injective (bef Y)⟩ := by
    ext j
    obtain ⟨l, rfl⟩ := sortedFrom_surjective (bef Y) j
    simp only [Finset.mem_filter, Finset.mem_univ, true_and, Finset.mem_map, Finset.mem_Iio, Function.Embedding.coeFn_mk]
    constructor
    · intro g
      refine ⟨l, ?_, rfl⟩
      by_contra hlk
      rcases eq_or_lt_of_le (not_lt.mp hlk) with rfl | q
      · exact g.irrefl
      · exact g.asymm (bef_sorted _ _ q)
    · rintro ⟨l', hl', e⟩
      rw [← e]
      exact bef_sorted _ _ hl'
  unfold rank
  rw [h, Finset.card_map, Fin.card_Iio]

end Cert.Proof.Order

end
-- ==== Proof.RowValue.lean ====
/- The eight rounds of the row kernel over the extended reals: lane `k` of what it stores holds the row's entry of rank
   `k`, and its flat index. -/
module

public import proofs.«01_k».proof.Proof.RowRun
public import proofs.«01_k».proof.Proof.Order
public import Idealize.ShloMosaic.PureOps.Ideal.Laws

@[expose] public section

noncomputable section

namespace Cert.Proof.Row

open Idealize.ShloMosaic Idealize.ShloMosaic.ValueIdx
open Cert.KernelIdeal Cert.KernelIdeal.Gen
open Cert.Proof.Order

variable [Named Ideal]

/-- The place of flat index `j`, in the row and in the row with a unit axis before it. -/
def at2 (j : Fin 32768) : S256x128.Idx :=
  ix2 (⟨j.val / 128, by have := j.2; omega⟩ : Fin 256) (⟨j.val % 128, by omega⟩ : Fin 128)

def at3 : Fin 32768 ≃ S1x256x128.Idx where
  toFun j := ix3 0 (⟨j.val / 128, by have := j.2; omega⟩ : Fin 256) (⟨j.val % 128, by omega⟩ : Fin 128)
  invFun i := ⟨(i 1).val * 128 + (i 2).val, by
    have h1 : (i 1).val < 256 := (i 1).2
    have h2 : (i 2).val < 128 := (i 2).2
    omega⟩
  left_inv j := Fin.ext (by show j.val / 128 * 128 + j.val % 128 = _; omega)
  right_inv i := by
    have h1 : (i 1).val < 256 := (i 1).2
    have h2 : (i 2).val < 128 := (i 2).2
    have h0 : (i 0).val < 1 := (i 0).2
    funext a
    apply Fin.ext
    match a with
    | 0 => show 0 = (i 0).val; omega
    | 1 => show ((i 1).val * 128 + (i 2).val) / 128 = (i 1).val; omega
    | 2 => show ((i 1).val * 128 + (i 2).val) % 128 = (i 2).val; omega

theorem at2_eq (a : Fin 256) (b : Fin 128) (h : a.val * 128 + b.val < 32768) : at2 ⟨a.val * 128 + b.val, h⟩ = ix2 a b := by
  unfold at2
  have := b.2
  congr 1
  · exact Fin.ext (by show (a.val * 128 + b.val) / 128 = _; omega)
  · exact Fin.ext (by show (a.val * 128 + b.val) % 128 = _; omega)

/-- The row's entries by flat index. -/
def entry (y : RF Ideal) (j : Fin 32768) : EReal := y (at2 j)

theorem cast_at3 {α : Type} (y : S256x128.Idx → α) (h) (j : Fin 32768) : shapeCast S1x256x128 y h (at3 j) = y (at2 j) :=
  shapeCast_ab_1ab_apply y h _ _ _

theorem flat_at2 (j : Fin 32768) : flat (at2 j) = BitVec.ofNat 32 j.val := by
  have h := j.2
  show BitVec.ofNat 32 (0 * 256 + j.val / 128) * 128#32 + BitVec.ofNat 32 (0 * 128 + j.val % 128) = _
  apply BitVec.eq_of_toNat_eq
  simp only [BitVec.toNat_add, BitVec.toNat_mul, BitVec.toNat_ofNat]
  omega

/-- A reduction into one entry, read as the program reads it. -/
theorem read_one {α : Type} (x : S1.Idx → α) (h h') :
    extractAt ![0, 0, 0] (shapeCast S1x1x1 x h) h' = x (ix1 0) :=
  (shapeCast_apply x h _ (ix1 0) rfl)

theorem drop_one {s : Shape} {axes : List (Fin s.rank)} (h : s.Reduces axes S1) (i : s.Idx) : h.drop i = ix1 0 :=
  funext fun a => match a with
    | 0 => Subsingleton.elim (α := Fin 1) _ _

theorem maxOf_eq (y : RF Ideal) : maxOf y = Finset.univ.sup (entry y) := by
  unfold maxOf
  rw [read_one]
  refine (multiReduction_maximumf_eq_fold _ _ _ _ _ _).trans ?_
  rw [Finset.filter_true_of_mem fun i _ => drop_one _ i]
  have hb : (FloatOps.ofBits (F := Ideal) .f32 0xFF800000#32 : EReal) = ⊥ := by
    simp [Ideal.ofBits, Ideal.ieee]
  show Finset.fold max (FloatOps.ofBits (F := Ideal) .f32 0xFF800000#32 : EReal) _ _ = _
  rw [hb]
  show Finset.sup Finset.univ _ = _
  refine le_antisymm (Finset.sup_le fun i _ => ?_) (Finset.sup_le fun j _ => ?_)
  · obtain ⟨j, rfl⟩ := at3.surjective i
    rw [cast_at3]
    exact Finset.le_sup (f := entry y) (Finset.mem_univ j)
  · exact (le_of_eq (cast_at3 y _ j).symm).trans (Finset.le_sup (f := fun i => shapeCast S1x256x128 y _ i) (Finset.mem_univ (at3 j)))

theorem sumOf_eq (y : RF Ideal) : sumOf y = ∑ j : Fin 32768, entry y j := by
  unfold sumOf
  rw [read_one]
  refine (Ideal.multiReduction_add_total _ _ _ (fun b => by fin_cases b; rfl) _ _ _).trans ?_
  rw [← at3.sum_comp]
  exact Finset.sum_congr rfl fun j _ => cast_at3 y _ j

theorem minsi_toInt (a b : BitVec 32) : (IntOp.minsi a b).toInt = min a.toInt b.toInt := by
  unfold IntOp.minsi
  simp only [BitVec.slt, decide_eq_true_eq]
  split_ifs <;> omega

theorem fold_minsi {ι : Type} (s : Finset ι) (c : BitVec 32) (g : ι → BitVec 32) (i : ι) (hi : i ∈ s)
    (hc : (g i).toInt ≤ c.toInt) (h : ∀ k ∈ s, (g i).toInt ≤ (g k).toInt) : s.fold IntOp.minsi c g = g i := by
  apply BitVec.eq_of_toInt_eq
  have hf : (s.fold IntOp.minsi c g).toInt = s.fold min c.toInt fun k => (g k).toInt :=
    (Finset.fold_hom (m := BitVec.toInt) fun a b => minsi_toInt a b).symm
  rw [hf]
  refine le_antisymm ?_ ?_
  · exact (Finset.fold_min_le _).mpr (.inr ⟨i, hi, le_rfl⟩)
  · exact (Finset.le_fold_min _).mpr ⟨hc, h⟩

theorem cmpf_oeq_apply {s : Shape} (x y : FVec Ideal s .f32) (i : s.Idx) [Decidable ((x i : EReal) = y i)] :
    cmpf .oeq x y i = if (x i : EReal) = y i then 1#1 else 0#1 := by
  show Ideal.cmp .oeq (x i) (y i) = _
  unfold Ideal.cmp
  by_cases h : (x i : EReal) = y i <;> simp [h]

theorem toInt_small (n : ℕ) (h : n < 2147483648) : (BitVec.ofNat 32 n).toInt = n := by
  rw [BitVec.toInt_eq_toNat_of_lt] <;> rw [BitVec.toNat_ofNat] <;> omega

/-- The least flat index at `m` is what the index reduction finds. -/
theorem firstAt_eq (y : RF Ideal) (m : EReal) (i : Fin 32768) (hi : entry y i = m)
    (hl : ∀ j, entry y j = m → i ≤ j) : firstAt y m = BitVec.ofNat 32 i.val := by
  unfold firstAt
  rw [read_one]
  refine (multiReductionI_eq_fold _ _ _ _ _ _).trans ?_
  rw [Finset.filter_true_of_mem fun i _ => drop_one _ i]
  have hv : ∀ j, shapeCast S1x256x128 (select (cmpf .oeq y (broadcast S256x128 m)) flat (broadcast S256x128 1073741824#32))
      Cert.KernelIdeal.Facts₀.shapeCasts_S256x128_S1x256x128 (at3 j) = if entry y j = m then BitVec.ofNat 32 j.val else 1073741824#32 := by
    intro j
    rw [cast_at3, select_apply, cmpf_oeq_apply, select_ite, flat_at2]
    rfl
  have hv' := hv i
  rw [if_pos hi] at hv'
  rw [← hv']
  have hi2 := i.2
  refine fold_minsi _ _ _ _ (Finset.mem_univ _) ?_ fun k _ => ?_
  · rw [hv', toInt_small _ (by omega)]
    show (i.val : ℤ) ≤ 2147483647
    omega
  · obtain ⟨j, rfl⟩ := at3.surjective k
    rw [hv', hv, toInt_small _ (by omega)]
    split_ifs with h
    · have := hl j h
      rw [toInt_small _ (by omega)]
      exact_mod_cast this
    · show (i.val : ℤ) ≤ 1073741824
      omega

theorem entry_takeOut (y : RF Ideal) (i j : Fin 32768) :
    entry (takeOut y (BitVec.ofNat 32 i.val)) j = if j = i then ⊥ else entry y j := by
  unfold entry takeOut
  rw [select_eq_apply, flat_at2]
  have hb : (FloatOps.ofBits (F := Ideal) .f32 0xFF800000#32 : EReal) = ⊥ := by
    simp [Ideal.ofBits, Ideal.ieee]
  have hi := i.2
  have hj := j.2
  have : (BitVec.ofNat 32 j.val = broadcast S256x128 (BitVec.ofNat 32 i.val) (at2 j)) ↔ j = i := by
    show BitVec.ofNat 32 j.val = BitVec.ofNat 32 i.val ↔ _
    rw [ofNat_inj (by omega) (by omega), Fin.ext_iff]
  simp only [this]
  by_cases h : j = i
  · rw [if_pos h, if_pos h]; exact hb
  · rw [if_neg h, if_neg h]

/-- The entry a round takes: the best of those not taken before. -/
theorem round_takes (Y : Fin 32768 → EReal) (hY : ∀ j, Y j ≠ ⊥) (y : RF Ideal) (P : Finset (Fin 32768))
    (hP : P.card < 32768) (hy : ∀ j, entry y j = if j ∈ P then ⊥ else Y j) :
    ∃ i, i ∉ P ∧ (∀ j, j ∉ P → j ≠ i → Before Y i j) ∧ (maxOf y : EReal) = Y i ∧ firstAt y (maxOf y) = BitVec.ofNat 32 i.val := by
  obtain ⟨u, hu⟩ : ∃ u, u ∉ P := by
    by_contra h
    push Not at h
    have : P = Finset.univ := Finset.eq_univ_iff_forall.mpr h
    rw [this, Finset.card_univ, Fintype.card_fin] at hP
    omega
  have hmax := maxOf_eq y
  obtain ⟨a, -, ha⟩ := Finset.exists_mem_eq_sup Finset.univ ⟨u, Finset.mem_univ u⟩ (entry y)
  rw [ha] at hmax
  have hle : ∀ j, entry y j ≤ maxOf y := fun j => by
    rw [hmax, ← ha]; exact Finset.le_sup (Finset.mem_univ j)
  have hne : (Finset.univ.filter fun j => entry y j = maxOf y).Nonempty := ⟨a, by simp [hmax]⟩
  obtain ⟨i, hi, hmin⟩ := Finset.exists_min_image _ id hne
  simp only [Finset.mem_filter, Finset.mem_univ, true_and, id] at hi hmin
  have hiP : i ∉ P := by
    intro h
    have := hle u
    rw [← hi, hy u, hy i, if_pos h, if_neg hu] at this
    exact hY u (le_bot_iff.mp this)
  have hYi : entry y i = Y i := by rw [hy, if_neg hiP]
  refine ⟨i, hiP, fun j hj hji => ?_, hi ▸ hYi, firstAt_eq y _ i hi hmin⟩
  have hYj : entry y j = Y j := by rw [hy, if_neg hj]
  rcases lt_or_eq_of_le (hle j) with h | h
  · left
    rw [← hYi, ← hYj, hi]; exact h
  · right
    refine ⟨by rw [← hYi, ← hYj, hi, h], lt_of_le_of_ne (hmin j h) (Ne.symm hji)⟩

theorem row_round (k : ℕ) (s : St Ideal) : (roundOf k s).y = takeOut s.y (firstAt s.y (maxOf s.y)) := by
  delta roundOf
  dsimp only

theorem lane_round (n : ℕ) (hn : n < 128) (s : St Ideal) (k : Fin 128) :
    (roundOf n s).v (ix2 0 k) = (if k.val = n then maxOf s.y else s.v (ix2 0 k))
      ∧ (roundOf n s).p (ix2 0 k) = if k.val = n then firstAt s.y (maxOf s.y) else s.p (ix2 0 k) := by
  have hl : lane (ix2 0 k) = BitVec.ofNat 32 n ↔ k.val = n := by
    rw [lane_apply]
    have := k.2
    exact ofNat_inj (by omega) (by omega)
  constructor
  · refine (select_eq_apply _ _ _ _ _).trans ?_
    simp only [broadcast_apply, hl]
  · refine (select_eq_apply _ _ _ _ _).trans ?_
    simp only [broadcast_apply, hl]

/-- After `n` rounds: the entries of ranks below `n` are found and taken out. -/
theorem rounds_spec (y : RF Ideal) (hy : ∀ j, entry y j ≠ ⊥) : ∀ n, n ≤ 128 →
    ∃ P : Finset (Fin 32768), P.card = n ∧ Down (entry y) P
      ∧ (∀ j, entry (roundsOf y n).y j = if j ∈ P then ⊥ else entry y j)
      ∧ ∀ k : Fin 128, k.val < n → ∃ i, rank (entry y) i = k.val ∧ ((roundsOf y n).v (ix2 0 k) : EReal) = entry y i
          ∧ (roundsOf y n).p (ix2 0 k) = BitVec.ofNat 32 i.val
  | 0, _ => ⟨∅, rfl, down_empty, fun j => by simp [roundsOf], fun k h => absurd h (Nat.not_lt_zero _)⟩
  | n + 1, hn => by
    obtain ⟨P, hc, hD, hm, hk⟩ := rounds_spec y hy n (by omega)
    obtain ⟨i, hiP, hb, hv, hp⟩ := round_takes (entry y) hy (roundsOf y n).y P (by omega) hm
    have hr := rank_greedy hD hiP hb
    refine ⟨insert i P, by rw [Finset.card_insert_of_notMem hiP, hc], down_insert hD hiP hb, fun j => ?_, fun k hkn => ?_⟩
    · rw [roundsOf, row_round, hp, entry_takeOut, hm]
      by_cases h : j = i
      · rw [if_pos h, if_pos (by rw [h]; exact Finset.mem_insert_self _ _)]
      · rw [if_neg h]
        simp only [Finset.mem_insert, h, false_or]
    · obtain ⟨ev, ep⟩ := lane_round n (by omega) (roundsOf y n) k
      rw [roundsOf, ev, ep]
      by_cases h : k.val = n
      · rw [if_pos h, if_pos h]
        exact ⟨i, by rw [hr, hc, h], hv, hp⟩
      · rw [if_neg h, if_neg h]
        exact hk k (by omega)

/-- What the kernel stores in lane `k < 8`. -/
theorem row_spec (x : S1x256x128.Idx → Ideal .f32) (T : S1x1x50.Idx → BitVec 32) (b : S1x1x1.Idx → Ideal .f32)
    (hy : ∀ j, entry (scoreRow x T b) j ≠ ⊥) (k : Fin 128) (hk : k.val < 8) :
    ∃ i, rank (entry (scoreRow x T b)) i = k.val ∧ (rowV x T b (ix3 0 0 k) : EReal) = entry (scoreRow x T b) i
      ∧ rowP x T b (ix3 0 0 k) = BitVec.ofNat 32 i.val := by
  obtain ⟨P, -, -, -, h⟩ := rounds_spec _ hy 8 (by omega)
  obtain ⟨i, h1, h2, h3⟩ := h k hk
  refine ⟨i, h1, ?_, ?_⟩
  · rw [← h2]; exact shapeCast_ab_1ab_apply _ _ _ _ _
  · rw [← h3]; exact shapeCast_ab_1ab_apply _ _ _ _ _

end Cert.Proof.Row

end
-- ==== Proof.MergeValue.lean ====
/- The merge kernel over the extended reals, one batch at a time. The eight rounds take the entries of ranks 0 to 7 of
   the batch's four rows together, and slot `j` holds the `j`-th of them that is not the end token. -/
module

public import proofs.«01_k».proof.Proof.MergeRun
public import proofs.«01_k».proof.Proof.RowValue

@[expose] public section

noncomputable section

namespace Cert.Proof.Merge

open Idealize.ShloMosaic Idealize.ShloMosaic.ValueIdx
open Cert.KernelIdeal Cert.KernelIdeal.Gen
open Cert.Proof.Order
open Cert.Proof.Row (cmpf_oeq_apply toInt_small minsi_toInt)

/-- A flat index of a batch: four rows of 32768 entries. -/
abbrev Ix := Fin 131072

variable (β : Fin 32)

/-- The candidate `c` is, in batch `β`, the entry at flat index `j`, with the score that `Z` gives. -/
structure CandIs (Z : Ix → EReal) (c : Cand Ideal) (j : Ix) : Prop where
  s : (c.s (ix2 β 0) : EReal) = Z j
  f : c.f (ix2 β 0) = BitVec.ofNat 32 j.val
  t : c.t (ix2 β 0) = BitVec.ofNat 32 (j.val % 32768)
  b : c.b (ix2 β 0) = BitVec.ofNat 32 (j.val / 32768)

/-- The pick `p` is, in batch `β`, the entry at flat index `j`. -/
structure PickIs (Y : Ix → EReal) (p : Pick Ideal) (j : Ix) : Prop where
  s : (p.s (ix2 β 0) : EReal) = Y j
  t : p.t (ix2 β 0) = BitVec.ofNat 32 (j.val % 32768)
  b : p.b (ix2 β 0) = BitVec.ofNat 32 (j.val / 32768)

variable {β} {Y Z : Ix → EReal} {l : List (Cand Ideal)} {G : List Ix}

theorem best_spec (h : List.Forall₂ (CandIs β Z) l G) : ∀ m : FC Ideal,
    (m (ix2 β 0) : EReal) ≤ best m l (ix2 β 0) ∧ (∀ j ∈ G, Z j ≤ best m l (ix2 β 0))
      ∧ ((best m l (ix2 β 0) : EReal) = m (ix2 β 0) ∨ ∃ j ∈ G, Z j = best m l (ix2 β 0)) := by
  induction h with
  | nil => intro m; exact ⟨le_rfl, by simp, .inl rfl⟩
  | @cons c j l G hc _ ih =>
    intro m
    obtain ⟨h1, h2, h3⟩ := ih (maximumf m c.s)
    have e : (maximumf m c.s (ix2 β 0) : EReal) = max (m (ix2 β 0) : EReal) (Z j) := by rw [← hc.s]; rfl
    rw [e] at h1 h3
    refine ⟨(le_max_left _ _).trans h1, fun k hk => ?_, ?_⟩
    · rcases List.mem_cons.mp hk with rfl | hk
      · exact (le_max_right _ _).trans h1
      · exact h2 k hk
    · rcases h3 with h3 | ⟨k, hk, h3⟩
      · rcases max_choice (m (ix2 β 0) : EReal) (Z j) with q | q
        · exact .inl (h3.trans q)
        · exact .inr ⟨j, List.mem_cons_self, (h3.trans q).symm⟩
      · exact .inr ⟨k, List.mem_cons_of_mem _ hk, h3⟩

theorem bestOf_spec (h : List.Forall₂ (CandIs β Z) l G) (hne : G ≠ []) :
    (∀ j ∈ G, Z j ≤ bestOf l (ix2 β 0)) ∧ ∃ j ∈ G, Z j = bestOf l (ix2 β 0) := by
  cases h with
  | nil => exact absurd rfl hne
  | @cons c j l G hc h =>
    obtain ⟨h1, h2, h3⟩ := best_spec h c.s
    rw [hc.s] at h1 h3
    refine ⟨fun k hk => ?_, ?_⟩
    · rcases List.mem_cons.mp hk with rfl | hk
      · exact h1
      · exact h2 k hk
    · rcases h3 with h3 | ⟨k, hk, h3⟩
      · exact ⟨j, List.mem_cons_self, h3.symm⟩
      · exact ⟨k, List.mem_cons_of_mem _ hk, h3⟩

theorem minsi_ofNat (a b : ℕ) (ha : a < 2147483648) (hb : b < 2147483648) :
    IntOp.minsi (BitVec.ofNat 32 a) (BitVec.ofNat 32 b) = BitVec.ofNat 32 (min a b) := by
  apply BitVec.eq_of_toInt_eq
  rw [minsi_toInt, toInt_small _ ha, toInt_small _ hb, toInt_small _ (by omega)]
  omega

theorem least_spec (h : List.Forall₂ (CandIs β Z) l G) (m : FC Ideal) : ∀ (a : IC) (A : ℕ), A ≤ 1073741824 →
    a (ix2 β 0) = BitVec.ofNat 32 A →
    ∃ r, least m a l (ix2 β 0) = BitVec.ofNat 32 r ∧ r ≤ A ∧ (∀ j ∈ G, Z j = m (ix2 β 0) → r ≤ j.val)
      ∧ (r = A ∨ ∃ j ∈ G, Z j = m (ix2 β 0) ∧ r = j.val) := by
  induction h with
  | nil => intro a A _ ha; exact ⟨A, ha, le_rfl, by simp, .inl rfl⟩
  | @cons c j l G hc _ ih =>
    intro a A hA ha
    classical
    have hj := j.2
    have e : minsi a (select (cmpf .oeq c.s m) c.f (broadcast S32x1 1073741824#32)) (ix2 β 0)
        = BitVec.ofNat 32 (min A (if Z j = m (ix2 β 0) then j.val else 1073741824)) := by
      show IntOp.minsi (a (ix2 β 0)) (select (cmpf .oeq c.s m) c.f (broadcast S32x1 1073741824#32) (ix2 β 0)) = _
      rw [select_apply, cmpf_oeq_apply, select_ite, hc.s, hc.f, ha]
      by_cases q : Z j = m (ix2 β 0)
      · rw [if_pos q, if_pos q]; exact minsi_ofNat _ _ (by omega) (by omega)
      · rw [if_neg q, if_neg q]; exact minsi_ofNat A 1073741824 (by omega) (by omega)
    obtain ⟨r, h1, h2, h3, h4⟩ := ih _ _ (by omega) e
    refine ⟨r, h1, by omega, fun k hk q => ?_, ?_⟩
    · rcases List.mem_cons.mp hk with rfl | hk
      · rw [if_pos q] at h2; omega
      · exact h3 k hk q
    · rcases h4 with h4 | ⟨k, hk, q, h4⟩
      · by_cases q : Z j = m (ix2 β 0)
        · rw [if_pos q] at h4
          rcases Nat.le_total A j.val with g | g
          · exact .inl (by omega)
          · exact .inr ⟨j, List.mem_cons_self, q, by omega⟩
        · rw [if_neg q] at h4; exact .inl (by omega)
      · exact .inr ⟨k, List.mem_cons_of_mem _ hk, q, h4⟩

theorem ix_word (i j : Ix) : BitVec.ofNat 32 j.val = BitVec.ofNat 32 i.val ↔ j = i := by
  have := i.2
  have := j.2
  rw [ofNat_inj (by omega) (by omega), Fin.ext_iff]

theorem tokenAt_spec (h : List.Forall₂ (CandIs β Z) l G) (w : IC) (i : Ix) (hw : w (ix2 β 0) = BitVec.ofNat 32 i.val) :
    ∀ a : IC, (i ∈ G ∨ a (ix2 β 0) = BitVec.ofNat 32 (i.val % 32768)) →
      tokenAt w a l (ix2 β 0) = BitVec.ofNat 32 (i.val % 32768) := by
  induction h with
  | nil => intro a ha; exact ha.resolve_left (by simp)
  | @cons c j l G hc _ ih =>
    intro a ha
    refine ih _ ?_
    rw [select_eq_apply, hc.f, hw, hc.t]
    simp only [ix_word]
    by_cases q : j = i
    · rw [if_pos q, q]; exact .inr rfl
    · rw [if_neg q]
      rcases ha with ha | ha
      · exact .inl ((List.mem_cons.mp ha).resolve_left (Ne.symm q))
      · exact .inr ha

theorem beamAt_spec (h : List.Forall₂ (CandIs β Z) l G) (w : IC) (i : Ix) (hw : w (ix2 β 0) = BitVec.ofNat 32 i.val) :
    ∀ a : IC, (i ∈ G ∨ a (ix2 β 0) = BitVec.ofNat 32 (i.val / 32768)) →
      beamAt w a l (ix2 β 0) = BitVec.ofNat 32 (i.val / 32768) := by
  induction h with
  | nil => intro a ha; exact ha.resolve_left (by simp)
  | @cons c j l G hc _ ih =>
    intro a ha
    refine ih _ ?_
    rw [select_eq_apply, hc.f, hw, hc.b]
    simp only [ix_word]
    by_cases q : j = i
    · rw [if_pos q, q]; exact .inr rfl
    · rw [if_neg q]
      rcases ha with ha | ha
      · exact .inl ((List.mem_cons.mp ha).resolve_left (Ne.symm q))
      · exact .inr ha

theorem drop_spec (h : List.Forall₂ (CandIs β Z) l G) (w : IC) (i : Ix) (hw : w (ix2 β 0) = BitVec.ofNat 32 i.val) :
    List.Forall₂ (CandIs β fun j => if j = i then ⊥ else Z j) (drop w l) G := by
  induction h with
  | nil => exact .nil
  | @cons c j l G hc _ ih =>
    refine .cons ⟨?_, hc.f, hc.t, hc.b⟩ ih
    have hb : (FloatOps.ofBits (F := Ideal) .f32 0xFF800000#32 : EReal) = ⊥ := by simp [Ideal.ofBits, Ideal.ieee]
    refine (select_eq_apply c.f w _ c.s _).trans ?_
    rw [hc.f, hw, hc.s]
    simp only [ix_word]
    by_cases q : j = i
    · rw [if_pos q, if_pos q]; exact hb
    · rw [if_neg q, if_neg q]

/-- One round, the entries of `P` being taken out before it. -/
theorem pick_spec (hY : ∀ j, Y j ≠ ⊥) (P : Finset Ix) (hP : P.card < 8)
    (hG : ∀ j, j ∉ G → ∀ P : Finset Ix, P.card < 8 → ∃ i ∈ G, i ∉ P ∧ Before Y i j)
    (hne : ∀ P : Finset Ix, P.card < 8 → ∃ i ∈ G, i ∉ P)
    (h : List.Forall₂ (CandIs β fun j => if j ∈ P then ⊥ else Y j) l G) :
    ∃ i, i ∉ P ∧ (∀ j, j ∉ P → j ≠ i → Before Y i j) ∧ PickIs β Y (pick l) i
      ∧ leastOf l (bestOf l) (ix2 β 0) = BitVec.ofNat 32 i.val := by
  obtain ⟨u, huG, huP⟩ := hne P hP
  obtain ⟨hle, a, haG, ha⟩ := bestOf_spec h (List.ne_nil_of_mem huG)
  obtain ⟨r, h1, -, h3, h4⟩ := least_spec h (bestOf l) (broadcast S32x1 1073741824#32) 1073741824 le_rfl rfl
  obtain ⟨i, hiG, hi, hr⟩ : ∃ j ∈ G, (if j ∈ P then ⊥ else Y j) = (bestOf l (ix2 β 0) : EReal) ∧ r = j.val := by
    rcases h4 with h4 | h4
    · have := h3 a haG ha
      have := a.2
      omega
    · exact h4
  subst hr
  have hiP : i ∉ P := by
    intro hp
    have := hle u huG
    rw [← hi, if_pos hp, if_neg huP] at this
    exact hY u (le_bot_iff.mp this)
  rw [if_neg hiP] at hi
  have hbG : ∀ j ∈ G, j ∉ P → j ≠ i → Before Y i j := by
    intro j hj hjP hji
    have q := hle j hj
    have q' := h3 j hj
    simp only [if_neg hjP] at q q'
    rw [← hi] at q q'
    rcases lt_or_eq_of_le q with g | g
    · exact .inl g
    · exact .inr ⟨g.symm, lt_of_le_of_ne (q' g) (Ne.symm hji)⟩
  refine ⟨i, hiP, fun j hjP hji => ?_, ⟨hi.symm, tokenAt_spec h _ i h1 _ (.inl hiG), beamAt_spec h _ i h1 _ (.inl hiG)⟩, h1⟩
  by_cases hj : j ∈ G
  · exact hbG j hj hjP hji
  · obtain ⟨k, hkG, hkP, hkj⟩ := hG j hj P hP
    rcases eq_or_ne k i with rfl | hki
    · exact hkj
    · exact (hbG k hkG hkP hki).trans hkj

/-- The rounds take the entries in the order of their ranks. -/
theorem rounds_spec (hY : ∀ j, Y j ≠ ⊥)
    (hG : ∀ j, j ∉ G → ∀ P : Finset Ix, P.card < 8 → ∃ i ∈ G, i ∉ P ∧ Before Y i j)
    (hne : ∀ P : Finset Ix, P.card < 8 → ∃ i ∈ G, i ∉ P) : ∀ (n : ℕ) (l : List (Cand Ideal)) (P : Finset Ix),
    P.card + n ≤ 8 → Down Y P → List.Forall₂ (CandIs β fun j => if j ∈ P then ⊥ else Y j) l G →
    ∃ I : List Ix, List.Forall₂ (PickIs β Y) (rounds n l) I ∧ I.map (rank Y) = List.range' P.card n
  | 0, l, P, _, _, _ => ⟨[], .nil, rfl⟩
  | n + 1, l, P, hn, hD, h => by
    obtain ⟨i, hiP, hb, hp, hl⟩ := pick_spec hY P (by omega) hG hne h
    have hc : (insert i P).card = P.card + 1 := Finset.card_insert_of_notMem hiP
    have hd := drop_spec h _ i hl
    have e : (fun j => if j = i then (⊥ : EReal) else if j ∈ P then ⊥ else Y j) = fun j => if j ∈ insert i P then ⊥ else Y j := by
      funext j
      by_cases q : j = i
      · rw [if_pos q, if_pos (by rw [q]; exact Finset.mem_insert_self _ _)]
      · rw [if_neg q]; simp only [Finset.mem_insert, q, false_or]
    rw [e] at hd
    obtain ⟨I, h1, h2⟩ := rounds_spec hY hG hne n _ _ (by omega) (down_insert hD hiP hb) hd
    refine ⟨i :: I, .cons hp h1, ?_⟩
    rw [List.map_cons, h2, hc, rank_greedy hD hiP hb, List.range'_succ]

/-! ## The slots -/

/-- The entry is not the end token. -/
def keep (j : Ix) : Bool := decide (j.val % 32768 ≠ 2)

theorem kept_apply {p : Pick Ideal} {i : Ix} (h : PickIs β Y p i) : kept p (ix2 β 0) = if keep i then 1#1 else 0#1 := by
  unfold kept keep
  rw [cmpi_ne_apply, h.t]
  have : (BitVec.ofNat 32 (i.val % 32768) = broadcast S32x1 2#32 (ix2 β 0)) ↔ i.val % 32768 = 2 := by
    rw [broadcast_apply]
    exact ofNat_inj (n := 2) (by omega) (by omega)
  simp only [this]
  by_cases q : i.val % 32768 = 2 <;> simp [q]

theorem count_apply {p : Pick Ideal} {i : Ix} (h : PickIs β Y p i) (cnt : IC) (c : ℕ) (hc : cnt (ix2 β 0) = BitVec.ofNat 32 c) :
    addi cnt (extui 32 (kept p) natLt_1_32) (ix2 β 0) = BitVec.ofNat 32 (if keep i then c + 1 else c) := by
  show cnt (ix2 β 0) + (kept p (ix2 β 0)).zeroExtend 32 = _
  rw [kept_apply h, hc]
  cases keep i
  · show BitVec.ofNat 32 c + 0#32 = _
    simp
  · show BitVec.ofNat 32 c + 1#32 = _
    rw [if_pos rfl]
    exact (BitVec.ofNat_add c 1).symm

/-- Two picks agree in batch `β`. -/
structure Same (β : Fin 32) (p q : Pick Ideal) : Prop where
  s : (p.s (ix2 β 0) : EReal) = q.s (ix2 β 0)
  t : p.t (ix2 β 0) = q.t (ix2 β 0)
  b : p.b (ix2 β 0) = q.b (ix2 β 0)

theorem Same.trans {p q r : Pick Ideal} (h : Same β p q) (h' : Same β q r) : Same β p r :=
  ⟨h.s.trans h'.s, h.t.trans h'.t, h.b.trans h'.b⟩

theorem Same.is {p q : Pick Ideal} {i : Ix} (h : Same β p q) (h' : PickIs β Y q i) : PickIs β Y p i :=
  ⟨h.s.trans h'.s, h.t.trans h'.t, h.b.trans h'.b⟩

theorem put_spec {p : Pick Ideal} {i : Ix} (h : PickIs β Y p i) (cnt : IC) (c : ℕ) (hc : cnt (ix2 β 0) = BitVec.ofNat 32 c)
    (hc8 : c ≤ 8) : ∀ (o : List (Pick Ideal)) (a j : ℕ), a + j ≤ 8 → j < o.length →
      Same β ((put (kept p) cnt p a o).getD j emptySlot) (if keep i ∧ c = a + j then p else o.getD j emptySlot)
  | [], _, _, _, h => absurd h (Nat.not_lt_zero _)
  | q :: o, a, 0, ha, _ => by
      have e : andi (kept p) (cmpi .eq cnt (broadcast S32x1 (BitVec.ofNat 32 a))) (ix2 β 0)
          = if keep i ∧ c = a then 1#1 else 0#1 := by
        show kept p (ix2 β 0) &&& cmpi .eq cnt (broadcast S32x1 (BitVec.ofNat 32 a)) (ix2 β 0) = _
        rw [kept_apply h, cmpi_eq_apply, hc, broadcast_apply]
        simp only [ofNat_inj (m := c) (n := a) (by omega) (by omega)]
        by_cases h1 : c = a <;> cases keep i <;> simp [h1]
      rw [Nat.add_zero]
      show Same β ⟨_, _, _⟩ (if keep i ∧ c = a then p else q)
      refine ⟨?_, ?_, ?_⟩
      all_goals
        refine (select_apply _ _ _ _).trans ?_
        rw [e, select_ite]
        by_cases g : keep i ∧ c = a
        · rw [if_pos g, if_pos g]
        · rw [if_neg g, if_neg g]
  | q :: o, a, j + 1, ha, hj => by
      have := put_spec h cnt c hc hc8 o (a + 1) j (by omega) (Nat.lt_of_succ_lt_succ hj)
      rw [show a + (j + 1) = a + 1 + j by omega]
      exact this

theorem length_put (ok : IVec S32x1 1) (cnt : IC) (p : Pick Ideal) : ∀ (o : List (Pick Ideal)) (a : ℕ),
    (put ok cnt p a o).length = o.length
  | [], _ => rfl
  | _ :: o, a => congrArg (· + 1) (length_put ok cnt p o (a + 1))

/-- The slots before the count stay; the slots from the count on take the kept picks in order. -/
theorem fill_spec {R : List (Pick Ideal)} {I : List Ix} (h : List.Forall₂ (PickIs β Y) R I) :
    ∀ (cnt : IC) (c : ℕ) (o : List (Pick Ideal)) (j : ℕ), cnt (ix2 β 0) = BitVec.ofNat 32 c → c + R.length ≤ 8 →
      j ≤ 8 → j < o.length →
      (j < c → Same β ((fill cnt o R).getD j emptySlot) (o.getD j emptySlot))
      ∧ (c ≤ j → ∀ i, (I.filter keep)[j - c]? = some i → PickIs β Y ((fill cnt o R).getD j emptySlot) i) := by
  induction h with
  | nil => intro cnt c o j _ _ _ _; exact ⟨fun _ => ⟨rfl, rfl, rfl⟩, fun _ i hi => by simp at hi⟩
  | @cons p i R I hp _ ih =>
    intro cnt c o j hcnt hc hj ho
    rw [List.length_cons] at hc
    have hput := put_spec hp cnt c hcnt (by omega) o 0 j (by omega) ho
    rw [Nat.zero_add] at hput
    obtain ⟨h1, h2⟩ := ih _ (if keep i then c + 1 else c) (put (kept p) cnt p 0 o) j (count_apply hp cnt c hcnt)
      (by split <;> omega) hj (by rw [length_put]; exact ho)
    by_cases hk : keep i
    · rw [if_pos hk] at h1 h2
      simp only [hk, true_and] at hput
      rw [List.filter_cons_of_pos hk]
      refine ⟨fun hjc => ?_, fun hcj k hi => ?_⟩
      · rw [if_neg (by omega)] at hput
        exact (h1 (by omega)).trans hput
      · rcases Nat.eq_or_lt_of_le hcj with rfl | g
        · rw [if_pos rfl] at hput
          rw [Nat.sub_self] at hi
          obtain rfl : i = k := by simpa using hi
          exact ((h1 (by omega)).trans hput).is hp
        · refine h2 g k ?_
          rw [show j - c = (j - (c + 1)) + 1 by omega] at hi
          simpa using hi
    · rw [if_neg hk] at h1 h2
      simp only [hk, false_and, if_false] at hput
      rw [List.filter_cons_of_neg hk]
      exact ⟨fun hjc => (h1 hjc).trans hput, fun hcj k hi => h2 hcj k hi⟩

/-- Slot `j` holds the `j`-th kept entry of ranks 0 to 7. -/
theorem slots_spec (hY : ∀ j, Y j ≠ ⊥)
    (hG : ∀ j, j ∉ G → ∀ P : Finset Ix, P.card < 8 → ∃ i ∈ G, i ∉ P ∧ Before Y i j)
    (hne : ∀ P : Finset Ix, P.card < 8 → ∃ i ∈ G, i ∉ P) (h : List.Forall₂ (CandIs β Y) l G) :
    ∃ I : List Ix, I.map (rank Y) = List.range 8 ∧ ∀ j < 4, ∀ i, (I.filter keep)[j]? = some i →
      PickIs β Y ((slots l).getD j emptySlot) i := by
  obtain ⟨I, h1, h2⟩ := rounds_spec hY hG hne 8 l ∅ (by simp) down_empty (by simpa using h)
  refine ⟨I, by rw [h2, List.range_eq_range']; rfl, fun j hj i hi => ?_⟩
  have hl : (rounds 8 l).length = 8 := by
    have := congrArg List.length h2
    rw [List.length_map, List.length_range'] at this
    rw [h1.length_eq, this]
  exact (fill_spec h1 _ 0 _ j rfl (by omega) (by omega) (by simpa using hj)).2 (Nat.zero_le _) i hi

/-- Four of the eight are kept. -/
theorem four_kept (I : List Ix) (hI : I.map (rank Y) = List.range 8) : 4 ≤ (I.filter keep).length := by
  have hnd : I.Nodup := List.Nodup.of_map (rank Y) (hI ▸ List.nodup_range)
  have hl : I.length = 8 := by
    have := congrArg List.length hI
    rwa [List.length_map, List.length_range] at this
  have hs := List.length_eq_length_filter_add (l := I) keep
  have hn : (I.filter fun i => !keep i).length ≤ 4 := by
    have hsub : (I.filter fun i => !keep i).map Fin.val ⊆ [2, 32770, 65538, 98306] := by
      intro v hv
      obtain ⟨i, hi, rfl⟩ := List.mem_map.mp hv
      have hk := (List.mem_filter.mp hi).2
      have : i.val % 32768 = 2 := by simpa [keep] using hk
      have := i.2
      simp only [List.mem_cons, List.not_mem_nil, or_false]
      omega
    have hd : ((I.filter fun i => !keep i).map Fin.val).Nodup := (hnd.filter _).map Fin.val_injective
    have := (List.subperm_of_subset hd hsub).length_le
    rwa [List.length_map] at this
  omega

end Cert.Proof.Merge

end
-- ==== Proof.Batch.lean ====
/- One batch of the merge kernel: from the eight best entries of each of its four rows to its four slots. -/
module

public import proofs.«01_k».proof.Proof.MergeValue

@[expose] public section

noncomputable section

namespace Cert.Proof.Merge

open Idealize.ShloMosaic Idealize.ShloMosaic.ValueIdx
open Cert.KernelIdeal Cert.KernelIdeal.Gen
open Cert.Proof.Order

/-- The entry of row `w` at `i`, among the batch's. -/
def glob (w : Fin 4) (i : Fin 32768) : Ix := ⟨w.val * 32768 + i.val, by have := w.2; have := i.2; omega⟩

/-- A batch's entries from those of its four rows. -/
def join (L : Fin 4 → Fin 32768 → EReal) (j : Ix) : EReal :=
  L ⟨j.val / 32768, by have := j.2; omega⟩ ⟨j.val % 32768, by omega⟩

theorem glob_div (w : Fin 4) (i : Fin 32768) : (glob w i).val / 32768 = w.val := by
  have := i.2
  show (w.val * 32768 + i.val) / 32768 = _
  omega

theorem glob_mod (w : Fin 4) (i : Fin 32768) : (glob w i).val % 32768 = i.val := by
  have := i.2
  show (w.val * 32768 + i.val) % 32768 = _
  omega

theorem glob_self (j : Ix) : glob ⟨j.val / 32768, by have := j.2; omega⟩ ⟨j.val % 32768, by omega⟩ = j :=
  Fin.ext (by show j.val / 32768 * 32768 + j.val % 32768 = _; omega)

variable (L : Fin 4 → Fin 32768 → EReal)

theorem join_glob (w : Fin 4) (i : Fin 32768) : join L (glob w i) = L w i := by
  unfold join
  exact congrArg₂ L (Fin.ext (glob_div w i)) (Fin.ext (glob_mod w i))

theorem before_glob {w : Fin 4} {i j : Fin 32768} (h : Before (L w) i j) : Before (join L) (glob w i) (glob w j) := by
  unfold Before at h ⊢
  rw [join_glob, join_glob]
  refine h.imp_right fun q => ⟨q.1, ?_⟩
  have := q.2
  show w.val * 32768 + i.val < w.val * 32768 + j.val
  omega

variable {L} {p : Fin 4 → Fin 8 → Fin 32768}

theorem glob_inj {w : Fin 4} {i j : Fin 32768} (h : glob w i = glob w j) : i = j :=
  Fin.ext (by rw [← glob_mod w i, ← glob_mod w j, h])

/-- Eight entries of one row are not all among fewer than eight. -/
theorem some_left (hp : ∀ w k, rank (L w) (p w k) = k.val) (w : Fin 4) (P : Finset Ix) (hP : P.card < 8) :
    ∃ k, glob w (p w k) ∉ P := by
  by_contra h
  push Not at h
  have hinj : Function.Injective fun k => glob w (p w k) := fun k k' q => Fin.ext (by
    rw [← hp w k, ← hp w k', glob_inj q])
  have := Finset.card_le_card_of_injOn (s := Finset.univ) (t := P) (fun k => glob w (p w k)) (fun k _ => h k) hinj.injOn
  rw [Finset.card_univ, Fintype.card_fin] at this
  omega

theorem mem_places (q : Fin 4 × Fin 8) : q ∈ places := by
  revert q; decide

/-- The candidates of a batch. -/
def cands (p : Fin 4 → Fin 8 → Fin 32768) : List Ix := places.map fun q => glob q.1 (p q.1 q.2)

theorem mem_cands (w : Fin 4) (k : Fin 8) : glob w (p w k) ∈ cands p := by
  unfold cands
  rw [List.mem_map]
  exact ⟨(w, k), mem_places (w, k), Eq.refl _⟩

theorem cands_some (hp : ∀ w k, rank (L w) (p w k) = k.val) (P : Finset Ix) (hP : P.card < 8) : ∃ i ∈ cands p, i ∉ P := by
  obtain ⟨k, hk⟩ := some_left hp 0 P hP
  exact ⟨_, mem_cands 0 k, hk⟩

/-- An entry that is no candidate comes after all eight of its row. -/
theorem cands_best (hp : ∀ w k, rank (L w) (p w k) = k.val) (j : Ix) (hj : j ∉ cands p) (P : Finset Ix) (hP : P.card < 8) :
    ∃ i ∈ cands p, i ∉ P ∧ Before (join L) i j := by
  obtain ⟨w, u, rfl⟩ : ∃ w u, glob w u = j := ⟨_, _, glob_self j⟩
  obtain ⟨k, hk⟩ := some_left hp w P hP
  refine ⟨_, mem_cands w k, hk, before_glob L (before_of_rank_lt ?_)⟩
  rw [hp]
  by_contra h
  have hu : rank (L w) u < 8 := by have := k.2; omega
  have : p w ⟨rank (L w) u, hu⟩ = u := rank_inj (by rw [hp])
  exact hj (this ▸ mem_cands w _)

variable {β : Fin 32} {x : S32x4x128.Idx → Ideal .f32} {y : S32x4x128.Idx → BitVec 32}

theorem candAt_is (w : Fin 4) (k : Fin 8) (k' : Fin 128) (hk : k'.val = k.val) (hx : (x (ix3 β w k') : EReal) = L w (p w k))
    (hy : y (ix3 β w k') = BitVec.ofNat 32 (p w k).val) :
    CandIs β (join L) (candAt x y (w, k)) (glob w (p w k)) := by
  obtain rfl : k' = ⟨k.val, Nat.lt_trans k.isLt (by decide)⟩ := Fin.ext hk
  refine ⟨?_, ?_, ?_, ?_⟩
  · rw [join_glob, ← hx]
    exact cast_mid' (colOf (F := Ideal) (e := .f32) x w k) _ β 0
  · show shapeCast S32x1 (colOf (F := Ideal) (e := .i32) y w k) _ (ix2 β 0) + BitVec.ofNat 32 (w.val * 32768) = _
    rw [(cast_mid' (colOf (F := Ideal) (e := .i32) y w k) _ β 0 : _ = _)]
    refine (congrArg (· + BitVec.ofNat 32 (w.val * 32768)) hy).trans ?_
    show BitVec.ofNat 32 _ + BitVec.ofNat 32 _ = BitVec.ofNat 32 (w.val * 32768 + (p w k).val)
    rw [← BitVec.ofNat_add, Nat.add_comm]
  · rw [glob_mod, ← hy]
    exact cast_mid' (colOf (F := Ideal) (e := .i32) y w k) _ β 0
  · rw [glob_div]; rfl

/-- The four slots of a batch. -/
theorem batch_spec (hL : ∀ w i, L w i ≠ ⊥) (hp : ∀ w k, rank (L w) (p w k) = k.val)
    (hx : ∀ (w : Fin 4) (k : Fin 8), (x (ix3 β w ⟨k.val, Nat.lt_trans k.isLt (by decide)⟩) : EReal) = L w (p w k))
    (hy : ∀ (w : Fin 4) (k : Fin 8), y (ix3 β w ⟨k.val, Nat.lt_trans k.isLt (by decide)⟩) = BitVec.ofNat 32 (p w k).val) :
    ∃ I : List Ix, I.map (rank (join L)) = List.range 8 ∧ ∀ (j : Fin 4) (i : Ix), (I.filter keep)[j.val]? = some i →
      PickIs β (join L) (slotAt x y j) i := by
  have hF : List.Forall₂ (CandIs β (join L)) (places.map (candAt x y)) (cands p) := by
    unfold cands
    rw [List.forall₂_map_left_iff, List.forall₂_map_right_iff, List.forall₂_same]
    exact fun q _ => candAt_is q.1 q.2 _ rfl (hx q.1 q.2) (hy q.1 q.2)
  obtain ⟨I, h1, h2⟩ := slots_spec (β := β) (fun j => hL _ _) (cands_best hp) (cands_some hp) hF
  exact ⟨I, h1, fun j i hi => h2 j.val j.2 i hi⟩

/-- A place of a slot's old tokens and new token. -/
theorem idAt_spec {Y : Ix → EReal} (z : S32x4x50.Idx → BitVec 32) (q : Pick Ideal) (i : Ix) (h : PickIs β Y q i) (k : Fin 51) :
    idAt z q β k = if hk : k.val < 50 then z (ix3 β ⟨i.val / 32768, by have := i.2; omega⟩ ⟨k.val, hk⟩)
      else BitVec.ofNat 32 (i.val % 32768) := by
  unfold idAt
  split
  · next hk =>
    have hi := i.2
    have hb : ∀ (w : ℕ) (v : Vec Ideal S32x1x50 .i32) (t : IVec S32x50 32), w < 4 →
        choose (F := Ideal) q.b w v t (ix2 β ⟨k.val, hk⟩) = if i.val / 32768 = w then v (ix3 β 0 ⟨k.val, hk⟩) else t (ix2 β ⟨k.val, hk⟩) := by
      intro w v t hw
      unfold choose
      rw [select_apply, broadcastTo_apply _ _ _ (ix2 β 0) (by intro a; fin_cases a <;> rfl),
        shapeCast_apply _ _ (ix2 β 0) (ix2 β 0) rfl, cmpi_eq_apply, select_ite, h.b, broadcast_apply]
      simp only [ofNat_inj (m := i.val / 32768) (n := w) (by omega) (by omega)]
      rw [cast_mid' v _ β ⟨k.val, hk⟩]
    unfold history
    rw [hb _ _ _ (by omega), hb _ _ _ (by omega), hb _ _ _ (by omega), cast_mid' (oldOf (F := Ideal) z 0) _ β ⟨k.val, hk⟩]
    have e : ∀ w : Fin 4, oldOf (F := Ideal) z w (ix3 β 0 ⟨k.val, hk⟩) = z (ix3 β w ⟨k.val, hk⟩) := fun w => rfl
    rw [e, e, e, e]
    obtain ⟨w, hw⟩ : ∃ w : Fin 4, i.val / 32768 = w.val := ⟨⟨i.val / 32768, by omega⟩, rfl⟩
    rw [show (⟨i.val / 32768, by omega⟩ : Fin 4) = w from Fin.ext hw]
    simp only [hw]
    fin_cases w <;> rfl
  · exact h.t

end Cert.Proof.Merge

end
-- ==== Proof.Score.lean ====
/- The score of one entry, as a formula over the extended reals: the penalised entry, then the row's log-softmax with the
   beam's score added. The kernel's rows are these scores, and the scores of real arguments are real. -/
module

public import proofs.«01_k».proof.Proof.RowValue
public import proofs.«01_k».proof.Proof.Batch

@[expose] public section

noncomputable section

namespace Cert.Proof.Score

open Idealize.ShloMosaic Idealize.ShloMosaic.ValueIdx
open Cert.KernelIdeal Cert.KernelIdeal.Gen
open Cert.Proof.Row

/-! ## The log-softmax -/

/-- The entry `j` of the log-softmax of `z`, with `b` added. -/
def soft (z : Fin 32768 → EReal) (b : EReal) (j : Fin 32768) : EReal :=
  (z j - Finset.univ.sup z) - Ideal.log (∑ i, Ideal.exp (z i - Finset.univ.sup z)) + b

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem soft_real (z : Fin 32768 → EReal) (b : EReal) (hz : ∀ j, ∃ r : ℝ, z j = r) (hb : ∃ r : ℝ, b = r) (j : Fin 32768) :
    ∃ r : ℝ, soft z b j = r := by
  obtain ⟨m, _, hm⟩ := Finset.exists_mem_eq_sup (Finset.univ : Finset (Fin 32768)) ⟨0, Finset.mem_univ _⟩ z
  choose f hf using hz
  obtain ⟨β, hβ⟩ := hb
  have e : ∀ i, Ideal.exp (z i - Finset.univ.sup z) = ((Real.exp (f i - f m) : ℝ) : EReal) := fun i => by
    rw [hm, hf, hf, ← EReal.coe_sub]
    rfl
  have hs : ∑ i, Ideal.exp (z i - Finset.univ.sup z) = ((∑ i, Real.exp (f i - f m) : ℝ) : EReal) := by
    rw [Finset.sum_congr rfl fun i _ => e i, coe_sum]
  have hpos : 0 < ∑ i, Real.exp (f i - f m) := Finset.sum_pos (fun i _ => Real.exp_pos _) ⟨0, Finset.mem_univ _⟩
  have hl : Ideal.log ((∑ i, Real.exp (f i - f m) : ℝ) : EReal) = ((Real.log (∑ i, Real.exp (f i - f m)) : ℝ) : EReal) :=
    if_neg (not_le.mpr hpos)
  refine ⟨f j - f m - Real.log (∑ i, Real.exp (f i - f m)) + β, ?_⟩
  unfold soft
  rw [hs, hl, hm, hf, hf, hβ, ← EReal.coe_sub, ← EReal.coe_sub, ← EReal.coe_add]

theorem logp_apply {F : FTy → Type} [FloatOps F] [Named F] (x : RF F) (b : F .f32) (i : S256x128.Idx) :
    logp x b i = FloatOps.addf (FloatOps.subf (FloatOps.subf (x i) (maxOf x))
      (Scalar.log (sumOf (exp (subf x (broadcast S256x128 (maxOf x))))))) b := by
  unfold logp
  generalize (sumOf (exp (subf x (broadcast S256x128 (maxOf x))))) = q
  generalize maxOf x = m
  exact Eq.refl _

theorem exp_sub_apply {F : FTy → Type} [FloatOps F] [Named F] (x : RF F) (m : F .f32) (i : S256x128.Idx) :
    exp (subf x (broadcast S256x128 m)) i = FloatOps.exp (FloatOps.subf (x i) m) := rfl

theorem entry_logp (x : RF Ideal) (b : EReal) (j : Fin 32768) : entry (logp (F := Ideal) x b) j = soft (entry x) b j := by
  have e := logp_apply (F := Ideal) x b (at2 j)
  rw [sumOf_eq, maxOf_eq] at e
  refine Eq.trans (b := logp (F := Ideal) x b (at2 j)) (Eq.refl _) (e.trans ?_)
  have h : ∀ i, entry (exp (F := Ideal) (subf x (broadcast S256x128 (Finset.univ.sup (entry x))))) i
      = Ideal.exp (entry x i - Finset.univ.sup (entry x)) := fun i => exp_sub_apply (F := Ideal) x _ (at2 i)
  rw [Finset.sum_congr rfl fun i _ => h i]
  unfold soft
  generalize Finset.univ.sup (entry x) = m
  generalize (∑ i, Ideal.exp (entry x i - m)) = q
  exact Eq.refl _

/-! ## The penalty -/

/-- The penalty's factor, and its inverse. -/
theorem ofBits_rep : (FloatOps.ofBits .f32 0x3F99999A#32 : Ideal .f32) = ((5033165 / 4194304 : ℝ) : EReal) := by
  show Ideal.ofBits .f32 0x3F99999A#32 = _
  simp [Ideal.ofBits, Ideal.ieee]
  rw [← EReal.coe_mul]
  norm_num

theorem ofBits_one : (FloatOps.ofBits .f32 0x3F800000#32 : Ideal .f32) = ((1 : ℝ) : EReal) := by
  show Ideal.ofBits .f32 0x3F800000#32 = _
  simp [Ideal.ofBits, Ideal.ieee]
  rw [← EReal.coe_mul]
  norm_num

theorem ofBits_zero : (FloatOps.ofBits .f32 0x00000000#32 : Ideal .f32) = ((0 : ℝ) : EReal) := by
  show Ideal.ofBits .f32 0x00000000#32 = _
  simp [Ideal.ofBits, Ideal.ieee]

theorem olt_zero (x : ℝ) : (FloatOps.cmpf (F := Ideal) (φ := .f32) .olt (x : EReal) (FloatOps.ofBits .f32 0x00000000#32) : BitVec 1)
    = if x < 0 then 1#1 else 0#1 := by
  rw [ofBits_zero]
  show BitVec.ofBool (decide ((x : EReal) < ((0 : ℝ) : EReal))) = _
  by_cases h : x < 0
  · rw [if_pos h, decide_eq_true (EReal.coe_lt_coe_iff.mpr h)]; rfl
  · rw [if_neg h, decide_eq_false (fun h' => h (EReal.coe_lt_coe_iff.mp h'))]; rfl

theorem pen1_real (x : ℝ) : pen1 (F := Ideal) (x : EReal)
    = ((if x < 0 then x * (5033165 / 4194304) else x * (5033165 / 4194304)⁻¹ : ℝ) : EReal) := by
  unfold pen1
  have h : (FloatOps.cmpf (F := Ideal) (φ := .f32) .olt (x : EReal) (Scalar.ofBits .f32 0x00000000#32) : BitVec 1)
      = if x < 0 then 1#1 else 0#1 := olt_zero x
  rw [h]
  by_cases hx : x < 0
  · rw [if_pos hx, if_pos hx]
    show (x : EReal) * (FloatOps.ofBits .f32 0x3F99999A#32 : Ideal .f32) = _
    rw [ofBits_rep, EReal.coe_mul]
  · rw [if_neg hx, if_neg hx]
    show (x : EReal) * (Named.named (F := Ideal) κ "inv_rep" 0x3F555555#32 : Ideal .f32) = _
    rw [IdealRules.named_const.ideal_named_scalar κ "inv_rep" (φ := .f32) _ (((5033165 / 4194304)⁻¹ : ℝ) : EReal) rfl, EReal.coe_mul]

/-! ## A batch's scores -/

/-- Entry `j` of row `r` after the penalties. -/
def zAt (X : (⟨2, ![128, 32768]⟩ : Shape).Idx → EReal) (T : (⟨2, ![128, 50]⟩ : Shape).Idx → BitVec 32) (r : Fin 128) (j : Fin 32768) : EReal :=
  if ∃ n : Fin 50, (T (ix2 r n)).toNat = j.val then pen1 (F := Ideal) (X (ix2 r j)) else X (ix2 r j)

/-- Batch `β`'s row `w`. -/
def rowOf (β : Fin 32) (w : Fin 4) : Fin 128 := ⟨β.val * 4 + w.val, by have := β.2; have := w.2; omega⟩

/-- The scores of batch `β`'s four rows. -/
def scores (X : (⟨2, ![128, 32768]⟩ : Shape).Idx → EReal) (B : (⟨1, ![128]⟩ : Shape).Idx → EReal)
    (T : (⟨2, ![128, 50]⟩ : Shape).Idx → BitVec 32) (β : Fin 32) (w : Fin 4) : Fin 32768 → EReal :=
  soft (zAt X T (rowOf β w)) (B (ix1 (rowOf β w)))

theorem zAt_real (X : (⟨2, ![128, 32768]⟩ : Shape).Idx → EReal) (T : (⟨2, ![128, 50]⟩ : Shape).Idx → BitVec 32)
    (hX : ∀ i, ∃ r : ℝ, X i = r) (r : Fin 128) (j : Fin 32768) : ∃ x : ℝ, zAt X T r j = x := by
  obtain ⟨x, hx⟩ := hX (ix2 r j)
  unfold zAt
  rw [hx]
  split
  · exact ⟨_, pen1_real x⟩
  · exact ⟨x, rfl⟩

theorem scores_real (X : (⟨2, ![128, 32768]⟩ : Shape).Idx → EReal) (B : (⟨1, ![128]⟩ : Shape).Idx → EReal)
    (T : (⟨2, ![128, 50]⟩ : Shape).Idx → BitVec 32) (hX : ∀ i, ∃ r : ℝ, X i = r) (hB : ∀ i, ∃ r : ℝ, B i = r) (β : Fin 32) (w : Fin 4)
    (j : Fin 32768) : ∃ x : ℝ, scores X B T β w j = x :=
  soft_real _ _ (zAt_real X T hX _) (hB _) j

/-- The kernel's row is the scores. -/
theorem entry_scoreRow (X : (⟨2, ![128, 32768]⟩ : Shape).Idx → EReal) (B : (⟨1, ![128]⟩ : Shape).Idx → EReal)
    (T : (⟨2, ![128, 50]⟩ : Shape).Idx → BitVec 32) (β : Fin 32) (w : Fin 4)
    (x : S1x256x128.Idx → EReal) (t : S1x1x50.Idx → BitVec 32) (b : S1x1x1.Idx → EReal)
    (hx : ∀ j, x (at3 j) = X (ix2 (rowOf β w) j)) (ht : ∀ n, t (ix3 0 0 n) = T (ix2 (rowOf β w) n))
    (hb : b (ix3 0 0 0) = B (ix1 (rowOf β w))) :
    entry (scoreRow (F := Ideal) x t b) = scores X B T β w := by
  funext j
  unfold scoreRow scores
  rw [entry_logp, hb]
  congr 1
  funext i
  have e : entry (penRow (F := Ideal) x t 50) i
      = if ∃ n : Fin 50, n.val < 50 ∧ (t (ix3 0 0 n)).toNat = i.val / 128 * 128 + i.val % 128 then pen1 (F := Ideal) (x (at3 i)) else x (at3 i) := rfl
  rw [e, hx]
  unfold zAt
  congr 1
  refine propext (exists_congr fun n => ?_)
  rw [ht, show i.val / 128 * 128 + i.val % 128 = i.val by omega]
  exact ⟨fun h => h.2, fun h => ⟨n.2, h⟩⟩

end Cert.Proof.Score

end
-- ==== Proof.Tables.lean ====
module

public import Idealize.ShloMosaic.Lib.Routing.OpsSet
public import Idealize.ShloMosaic.Lib.Routing.OpsPair
public import Idealize.ShloMosaic.Lib.ValueIdxCore

/-! Reading and writing a table at positions named by index words, read at one element. -/

@[expose] public section

open Idealize.ShloMosaic Idealize.ShloMosaic.ValueIdx

namespace Cert.Proof.Tables

/-- Taking along the second axis: the dimension numbers. -/
abbrev alongDims (R N C : ℕ) (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- A word below `2 ^ 31` is its own signed value. -/
theorem toInt_word (w : BitVec 32) (n : ℕ) (hw : w.toNat = n) (hn : n < 2 ^ 31) : w.toInt = (n : ℤ) := by
  rw [BitVec.toInt_eq_toNat_of_lt (by omega), hw]

/-- Taking along the second axis at in-range positions. -/
theorem along_apply {α : Type} {R N C : ℕ} (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ 32) (r : Fin R) (n : Fin C) (v : Fin N) (hN : N < 2 ^ 31)
    (hv : (idx (ix3 r n 0)).toNat = v.val) :
    Host.gather (alongDims R N C wf) x idx (ix2 r n) = x (ix2 r v) := by
  unfold Host.gather
  congr 1
  funext a
  refine Fin.ext ?_
  show (alongDims R N C wf).start (ix2 r n) idx a + (alongDims R N C wf).batchCoord (ix2 r n) a
      + (alongDims R N C wf).offCoord (ix2 r n) a = _
  match a with
  | ⟨0, _⟩ =>
    rw [GatherDims.offCoord_eq_zero _ _ _ (fun h => ((GatherDims.mem_sKept _ _).mp h).2 (List.mem_singleton.mpr rfl))]
    have h0 : (alongDims R N C wf).start (ix2 r n) idx 0 = 0 := by
      unfold GatherDims.start
      exact dif_neg (fun h => by simp at h)
    show (alongDims R N C wf).start (ix2 r n) idx 0 + (alongDims R N C wf).batchCoord (ix2 r n) 0 + 0 = r.val
    rw [h0, Nat.zero_add, Nat.add_zero]
    unfold GatherDims.batchCoord
    rw [dif_pos (show (0 : Fin 2) ∈ (alongDims R N C wf).operandBatchingDims from List.mem_singleton.mpr rfl)]
    rfl
  | ⟨1, _⟩ =>
    show (alongDims R N C wf).start (ix2 r n) idx 1 + (alongDims R N C wf).batchCoord (ix2 r n) 1 + (alongDims R N C wf).offCoord (ix2 r n) 1 = v.val
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N C wf).startIndexMap from List.mem_singleton.mpr rfl)]
    have hsi : (alongDims R N C wf).siIdx (ix2 r n) ⟨List.idxOf (1 : Fin 2) (alongDims R N C wf).startIndexMap,
        List.idxOf_lt_length_iff.2 (List.mem_singleton.mpr rfl)⟩ = ix3 r n 0 := by
      funext b; refine Fin.ext ?_
      match b with
      | ⟨0, _⟩ => rfl
      | ⟨1, _⟩ => rfl
      | ⟨2, _⟩ => rfl
    have hvl := v.isLt
    rw [hsi, toInt_word _ _ hv (by omega)]
    show min ((v.val : ℤ)).toNat (N - 1) = v.val
    omega

/-- Setting cells named by pairs of words: the dimension numbers. -/
abbrev cellDims (R N C : ℕ) (wf : ScatterDims.WF ⟨2, ![R, N]⟩ ⟨3, ![R, C, 2]⟩ ⟨2, ![R, C]⟩ [] [0, 1] [0, 1] 2) :
    ScatterDims ⟨2, ![R, N]⟩ ⟨3, ![R, C, 2]⟩ ⟨2, ![R, C]⟩ where
  updateWindowDims := []
  insertedWindowDims := [0, 1]
  scatterDimsToOperandDims := [0, 1]
  indexVectorDim := 2
  wf := wf

theorem cell_lands {R N C : ℕ} (wf : ScatterDims.WF ⟨2, ![R, N]⟩ ⟨3, ![R, C, 2]⟩ ⟨2, ![R, C]⟩ [] [0, 1] [0, 1] 2)
    (idx : IVec ⟨3, ![R, C, 2]⟩ 32) (r : Fin R) (n : Fin C) (r' : Fin R) (v : Fin N) :
    (cellDims R N C wf).resultIdx? (ix2 r n) idx = some (ix2 r' v)
      ↔ (idx (ix3 r n 0)).toInt = (r'.val : ℤ) ∧ (idx (ix3 r n 1)).toInt = (v.val : ℤ) := by
  rw [Routing.resultIdx?_ix2]
  have w0 : (cellDims R N C wf).window (ix2 r n) 0 = 0 := by
    unfold ScatterDims.window
    exact dif_neg (fun h => by simp [Shape.kept] at h)
  have w1 : (cellDims R N C wf).window (ix2 r n) 1 = 0 := by
    unfold ScatterDims.window
    exact dif_neg (fun h => by simp [Shape.kept] at h)
  have s0 : (cellDims R N C wf).start (ix2 r n) idx 0 = (idx (ix3 r n 0)).toInt := by
    unfold ScatterDims.start
    rw [dif_pos (show (0 : Fin 2) ∈ (cellDims R N C wf).scatterDimsToOperandDims by simp)]
    congr 2
    funext b; refine Fin.ext ?_
    match b with
    | ⟨0, _⟩ => rfl
    | ⟨1, _⟩ => rfl
    | ⟨2, _⟩ => rfl
  have s1 : (cellDims R N C wf).start (ix2 r n) idx 1 = (idx (ix3 r n 1)).toInt := by
    unfold ScatterDims.start
    rw [dif_pos (show (1 : Fin 2) ∈ (cellDims R N C wf).scatterDimsToOperandDims by simp)]
    congr 2
    funext b; refine Fin.ext ?_
    match b with
    | ⟨0, _⟩ => rfl
    | ⟨1, _⟩ => rfl
    | ⟨2, _⟩ => rfl
  rw [w0, w1, s0, s1]
  simp

end Cert.Proof.Tables

end
-- ==== Proof.RefScore.lean ====
/- The reference's scores, element by element. -/
module

public import proofs.«01_k».proof.Proof.Gen.ReferenceIdeal.Run
public import proofs.«01_k».proof.Proof.Score
public import proofs.«01_k».proof.Proof.Tables
public import Idealize.ShloMosaic.Lib.IdealHost
public import Idealize.ShloMosaic.Lib.KernelVsHost

@[expose] public section

noncomputable section

namespace Cert.Proof.Ref

open Idealize.ShloMosaic Idealize.ShloMosaic.ValueIdx Idealize.ShloMosaic.TcCoe Idealize.ShloMosaic.StableHlo
open Cert.ReferenceIdeal Cert.ReferenceIdeal.Gen Cert.ReferenceIdeal.Value
open Cert.Proof.Score Cert.Proof.Tables

variable (W : Valuation τ sig (Elt Ideal))

abbrev X : (⟨2, ![128, 32768]⟩ : Shape).Idx → EReal := W (Proc.devRef .tc main_arg0)
abbrev B : (⟨1, ![128]⟩ : Shape).Idx → EReal := W (Proc.devRef .tc main_arg1)
abbrev T : (⟨2, ![128, 50]⟩ : Shape).Idx → BitVec 32 := W (Proc.devRef .tc main_arg2)

/-- The tokens' scores, whether each is negative, the penalised scores, and the scores less their row's maximum. -/
abbrev tok : (⟨2, ![128, 50]⟩ : Shape).Idx → EReal := res_main_v0 W
abbrev neg : (⟨2, ![128, 50]⟩ : Shape).Idx → EReal := res_main_v3 W
abbrev pen : (⟨2, ![128, 32768]⟩ : Shape).Idx → EReal := res_main_v29 W
abbrev low : (⟨2, ![128, 32768]⟩ : Shape).Idx → EReal := res_main_call1_v5 W

/-! ## The penalties -/

/-- Wrapping leaves a word that is not negative as it is. -/
theorem wrap_id {s : Shape} (x y z : IVec s 32) (hz : ∀ i, z i = 0#32) (hx : ∀ i, (x i).toNat < 2 ^ 31) :
    select (cmpi .slt x z) y x = x := by
  funext i
  show Scalar.select (IntOp.cmpi .slt (x i) (z i)) (y i) (x i) = x i
  rw [hz i]
  exact Routing.wrap_of_lt _ _ (hx i)

theorem wrap_T (hT : ∀ i, (T W i).toNat < 32768) (y : IVec S128x50 32) :
    select (cmpi .slt (W (Proc.devRef .tc main_arg2)) (broadcastInDim S128x50 ![] bcast_S_S128x50 (constantI S_ 32 0#32))) y
      (W (Proc.devRef .tc main_arg2)) = T W :=
  wrap_id _ _ _ (fun _ => rfl) fun i => Nat.lt_trans (hT i) (by decide)

theorem v0_apply (hT : ∀ i, (T W i).toNat < 32768) (r : Fin 128) (n : Fin 50) :
    tok W (ix2 r n) = X W (ix2 r ⟨(T W (ix2 r n)).toNat, hT _⟩) := by
  unfold tok res_main_v0
  rw [wrap_T W hT]
  refine along_apply _ _ _ r n ⟨(T W (ix2 r n)).toNat, hT _⟩ (by decide) ?_
  congr 1
  refine shapeCast_apply _ _ _ (ix2 r n) ?_
  rw [Shape.rowMajor_val_two, Shape.rowMajor_val_three]
  show r.val * 50 + n.val = (r.val * 50 + n.val) * 1 + 0
  omega

theorem v3_apply (i : S128x50.Idx) : neg W i
    = FloatOps.uitofp (F := Ideal) .f32 (FloatOps.cmpf (F := Ideal) (φ := .f32) .olt (tok W i) (FloatOps.ofBits .f32 0x00000000#32)) := rfl

/-- The reference's penalised score of one token. -/
theorem refPen (x : ℝ) (l : EReal) (hl : l = if x < 0 then ((1 : ℝ) : EReal) else ((0 : ℝ) : EReal)) :
    l * ((5033165 / 4194304 : ℝ) : EReal) * (x : EReal)
      + Ideal.div (((1 : ℝ) : EReal) - l) ((5033165 / 4194304 : ℝ) : EReal) * (x : EReal)
      = Cert.Proof.Row.pen1 (F := Ideal) (x : EReal) := by
  have hd : ∀ y : ℝ, Ideal.div (y : EReal) ((5033165 / 4194304 : ℝ) : EReal) = ((y * (5033165 / 4194304)⁻¹ : ℝ) : EReal) := fun y => by
    unfold Ideal.div
    rw [if_neg (by rw [← EReal.coe_zero, EReal.coe_eq_coe_iff]; norm_num), ← EReal.coe_inv, ← EReal.coe_mul]
  rw [pen1_real, hl]
  by_cases h : x < 0
  · rw [if_pos h, if_pos h, ← EReal.coe_sub, hd, ← EReal.coe_mul, ← EReal.coe_mul, ← EReal.coe_mul, ← EReal.coe_add]
    congr 1
    ring
  · rw [if_neg h, if_neg h, ← EReal.coe_sub, hd, ← EReal.coe_mul, ← EReal.coe_mul, ← EReal.coe_mul, ← EReal.coe_add]
    congr 1
    ring

theorem uitofp_bit (b : BitVec 1) : (FloatOps.uitofp .f32 b : Idealize.ShloMosaic.Ideal .f32) = ((b.toNat : ℝ) : EReal) := rfl

/-- What the reference writes back at a token. -/
theorem newTok (hX : ∀ i, ∃ r : ℝ, X W i = r) (hT : ∀ i, (T W i).toNat < 32768) (r : Fin 128) (n : Fin 50) :
    addf (mulf (mulf (res_main_v3 W) (broadcastInDim S128x50 ![] bcast_S_S128x50 (constant S_ .f32 0x3F99999A#32))) (res_main_v0 W))
      (mulf (Host.divf (subf (broadcastInDim S128x50 ![] bcast_S_S128x50 (constant S_ .f32 0x3F800000#32)) (res_main_v3 W))
        (broadcastInDim S128x50 ![] bcast_S_S128x50 (constant S_ .f32 0x3F99999A#32))) (res_main_v0 W)) (ix2 r n)
      = Cert.Proof.Row.pen1 (F := Ideal) (X W (ix2 r ⟨(T W (ix2 r n)).toNat, hT _⟩)) := by
  obtain ⟨x, hx⟩ := hX (ix2 r ⟨(T W (ix2 r n)).toNat, hT _⟩)
  have h0 : tok W (ix2 r n) = (x : EReal) := (v0_apply W hT r n).trans hx
  have h3 : neg W (ix2 r n) = if x < 0 then ((1 : ℝ) : EReal) else ((0 : ℝ) : EReal) := by
    rw [v3_apply, h0]
    refine (congrArg (FloatOps.uitofp (F := Ideal) .f32) (olt_zero x)).trans ?_
    rw [uitofp_bit]
    by_cases h : x < 0
    · rw [if_pos h, if_pos h]; simp
    · rw [if_neg h, if_neg h]; simp
  rw [hx, ← refPen x _ h3]
  show (neg W (ix2 r n) * (FloatOps.ofBits .f32 0x3F99999A#32 : Idealize.ShloMosaic.Ideal .f32) * tok W (ix2 r n)
    + Ideal.div ((FloatOps.ofBits .f32 0x3F800000#32 : Idealize.ShloMosaic.Ideal .f32) - neg W (ix2 r n)) (FloatOps.ofBits .f32 0x3F99999A#32 : Idealize.ShloMosaic.Ideal .f32)
      * tok W (ix2 r n) : EReal) = _
  rw [ofBits_rep, ofBits_one, h0]

/-- The row number of every row. -/
theorem v14_apply (r : Fin 128) : (res_main_v14 W (ix2 r 0) : BitVec 32) = BitVec.ofNat 32 r.val := by
  unfold res_main_v14
  refine (broadcastInDim_apply _ _ _ _ (ix1 r) (fun a => by fin_cases a; rfl)).trans ?_
  rfl

theorem rows_apply (r : Fin 128) (n : Fin 50) :
    (broadcastInDim S128x50x1 ![0, 1] bcast_S128x50_S128x50x1_0_1 (broadcastInDim S128x50 ![0, 1] bcast_S128x1_S128x50_0_1
      (select (cmpi .slt (res_main_v14 W) (broadcastInDim S128x1 ![] bcast_S_S128x1 (constantI S_ 32 0#32)))
        (addi (res_main_v14 W) (broadcastInDim S128x1 ![] bcast_S_S128x1 (constantI S_ 32 128#32))) (res_main_v14 W))) : S128x50x1.Idx → BitVec 32)
      (ix3 r n 0) = BitVec.ofNat 32 r.val := by
  have hw : ∀ i : S128x1.Idx, (res_main_v14 W i : BitVec 32).toNat < 2 ^ 31 := fun i => by
    obtain ⟨a, b, rfl⟩ : ∃ (a : Fin 128) (b : Fin 1), i = ix2 a b := ⟨i 0, i 1, eq_ix2 i⟩
    obtain rfl := Subsingleton.elim b 0
    refine lt_of_le_of_lt (le_of_eq (congrArg BitVec.toNat (v14_apply W a))) ?_
    rw [BitVec.toNat_ofNat]
    have := a.2
    omega
  rw [wrap_id (res_main_v14 W) _ (broadcastInDim S128x1 ![] bcast_S_S128x1 (constantI S_ 32 0#32)) (fun _ => rfl) hw]
  refine (broadcastInDim_apply _ _ _ _ (ix2 r n) (fun a => by fin_cases a <;> rfl)).trans ?_
  exact (broadcastInDim_apply _ _ _ _ (ix2 r 0) (fun a => by fin_cases a <;> rfl)).trans (v14_apply W r)

theorem toks_apply (hT : ∀ i, (T W i).toNat < 32768) (y : IVec S128x50 32) (r : Fin 128) (n : Fin 50) :
    (broadcastInDim S128x50x1 ![0, 1] bcast_S128x50_S128x50x1_0_1
      (select (cmpi .slt (W (Proc.devRef .tc main_arg2)) (broadcastInDim S128x50 ![] bcast_S_S128x50 (constantI S_ 32 0#32))) y
        (W (Proc.devRef .tc main_arg2))) : S128x50x1.Idx → BitVec 32) (ix3 r n 0) = T W (ix2 r n) := by
  rw [wrap_T W hT]
  exact broadcastInDim_apply _ _ _ _ (ix2 r n) (fun a => by fin_cases a <;> rfl)

/-- Cells named by a row number and a column word, side by side. -/
theorem cells_apply (a b : S128x50x1.Idx → BitVec 32) (r : Fin 128) (n : Fin 50) :
    concatenate S128x50x2 2 [⟨S128x50x1, a⟩, ⟨S128x50x1, b⟩] concatenates_S128x50x1_S128x50x1_S128x50x2_d2 (ix3 r n 0) = a (ix3 r n 0)
    ∧ concatenate S128x50x2 2 [⟨S128x50x1, a⟩, ⟨S128x50x1, b⟩] concatenates_S128x50x1_S128x50x1_S128x50x2_d2 (ix3 r n 1) = b (ix3 r n 0) :=
  ⟨concatenate_pair_apply_left (t := S128x50x2) (s₁ := S128x50x1) (s₂ := S128x50x1) 2 a b _ _ rfl _ (fun q => by fin_cases q <;> rfl),
    concatenate_pair_apply_right (t := S128x50x2) (s₁ := S128x50x1) (s₂ := S128x50x1) 2 a b _ _ rfl rfl _
      (fun q hq => by fin_cases q <;> first | rfl | exact absurd rfl hq) rfl⟩

/-- The penalised scores. -/
theorem pen_apply (hX : ∀ i, ∃ r : ℝ, X W i = r) (hT : ∀ i, (T W i).toNat < 32768) (r : Fin 128) (j : Fin 32768) :
    pen W (ix2 r j) = zAt (X W) (T W) r j := by
  have lands : ∀ (k : S128x50.Idx), scatter_S128x32768_S128x50x2_S128x50_n_01_01_2.resultIdx? k
      (concatenate S128x50x2 2 [⟨S128x50x1, (broadcastInDim S128x50x1 ![0, 1] bcast_S128x50_S128x50x1_0_1 (broadcastInDim S128x50 ![0, 1] bcast_S128x1_S128x50_0_1 (select (cmpi .slt (res_main_v14 W) (broadcastInDim S128x1 ![] bcast_S_S128x1 (constantI S_ 32 0#32))) (addi (res_main_v14 W) (broadcastInDim S128x1 ![] bcast_S_S128x1 (constantI S_ 32 128#32))) (res_main_v14 W))))⟩, ⟨S128x50x1, (broadcastInDim S128x50x1 ![0, 1] bcast_S128x50_S128x50x1_0_1 (select (cmpi .slt (W (Proc.devRef .tc main_arg2)) (broadcastInDim S128x50 ![] bcast_S_S128x50 (constantI S_ 32 0#32))) (addi (W (Proc.devRef .tc main_arg2)) (broadcastInDim S128x50 ![] bcast_S_S128x50 (constantI S_ 32 32768#32))) (W (Proc.devRef .tc main_arg2))))⟩] concatenates_S128x50x1_S128x50x1_S128x50x2_d2)
      = some (ix2 r j) ↔ k 0 = r ∧ (T W k).toNat = j.val := by
    intro k
    obtain ⟨a, n, rfl⟩ : ∃ (a : Fin 128) (n : Fin 50), k = ix2 a n := ⟨k 0, k 1, eq_ix2 k⟩
    refine (cell_lands _ _ a n r j).trans ?_
    have ha := a.2
    rw [(cells_apply _ _ a n).1, (cells_apply _ _ a n).2, rows_apply, toks_apply W hT,
      toInt_word (BitVec.ofNat 32 a.val) a.val (by rw [BitVec.toNat_ofNat]; omega) (by omega),
      toInt_word (T W (ix2 a n)) _ rfl (Nat.lt_trans (hT _) (by decide))]
    show ((a.val : ℤ) = r.val ∧ (((T W (ix2 a n)).toNat : ℤ)) = j.val) ↔ a = r ∧ _
    rw [Fin.ext_iff]
    omega
  unfold zAt pen res_main_v29
  split
  · next h =>
    obtain ⟨n, hn⟩ := h
    refine Routing.scatter_set_hit _ _ _ _ _ _ (fun k hk => ?_) (ix2 r n) ((lands _).mpr ⟨rfl, hn⟩)
    obtain ⟨a, n', rfl⟩ : ∃ (a : Fin 128) (n : Fin 50), k = ix2 a n := ⟨k 0, k 1, eq_ix2 k⟩
    obtain ⟨h0, h1⟩ := (lands _).mp hk
    obtain rfl : a = r := h0
    refine (newTok W hX hT a n').trans ?_
    rw [show (⟨(T W (ix2 a n')).toNat, hT _⟩ : Fin 32768) = j from Fin.ext h1]
  · next h =>
    refine Routing.scatter_set_miss _ _ _ _ _ fun k hk => h ?_
    obtain ⟨a, n', rfl⟩ : ∃ (a : Fin 128) (n : Fin 50), k = ix2 a n := ⟨k 0, k 1, eq_ix2 k⟩
    obtain ⟨h0, h1⟩ := (lands _).mp hk
    obtain rfl : a = r := h0
    exact ⟨n', h1⟩

end Cert.Proof.Ref

end
-- ==== Proof.RefSoft.lean ====
/- The reference's log-softmax, element by element. -/
module

public import proofs.«01_k».proof.Proof.RefScore

@[expose] public section

noncomputable section

namespace Cert.Proof.Ref

open Idealize.ShloMosaic Idealize.ShloMosaic.ValueIdx Idealize.ShloMosaic.TcCoe Idealize.ShloMosaic.StableHlo
open Cert.ReferenceIdeal Cert.ReferenceIdeal.Gen Cert.ReferenceIdeal.Value
open Cert.Proof.Score Cert.Proof.Tables

theorem lift_eq (h : S128x32768.Reduces [1] S128) (r : Fin 128) (k : Fin 32768) : h.lift (ix1 r) k = ix2 r k := by
  funext a
  fin_cases a <;> rfl

theorem reduces1 : S128x32768.Reduces [1] S128 := by decide

theorem ofBits_bot : (FloatOps.ofBits .f32 0xFF800000#32 : Idealize.ShloMosaic.Ideal .f32) = (⊥ : EReal) := by
  show Idealize.ShloMosaic.Ideal.ofBits .f32 0xFF800000#32 = (⊥ : EReal)
  simp [Ideal.ofBits, Ideal.ieee]

theorem rowMax (x : FVec Idealize.ShloMosaic.Ideal S128x32768 .f32) (r : Fin 128) :
    Host.reduce FloatOps.maximumf x (constant S_ .f32 0xFF800000#32) reducesTo_S128x32768_S128_d1 h_S_ (ix1 r)
      = Finset.univ.sup fun k : Fin 32768 => (x (ix2 r k) : EReal) := by
  rw [hostReduce_maximumf_eq_multiReduction x 0xFF800000#32 reducesTo_S128x32768_S128_d1 h_S_ reduces1 (.inl rfl) rfl]
  refine (Ideal.multiReduction_maximumf_single x _ _ _ _ _).trans ?_
  rw [ofBits_bot]
  unfold Finset.sup
  refine Finset.fold_congr fun k _ => ?_
  exact congrArg x (lift_eq reduces1 r k)

theorem rowSum (x : FVec Idealize.ShloMosaic.Ideal S128x32768 .f32) (r : Fin 128) :
    Host.reduceAdd x (constant S_ .f32 0x00000000#32) reducesTo_S128x32768_S128_d1 h_S_ (ix1 r)
      = ∑ k : Fin 32768, (x (ix2 r k) : EReal) := by
  rw [hostReduceAdd_apply]
  refine (Ideal.hostReduceAdd_single _ reduces1 x _ (ix1 r)).trans ?_
  have hz : (constant (F := Idealize.ShloMosaic.Ideal) S_ .f32 0x00000000#32 (Shape.Idx.first h_S_) : EReal) = 0 := ofBits_zero.trans EReal.coe_zero
  rw [hz, zero_add]
  exact Finset.sum_congr rfl fun k _ => congrArg x (lift_eq reduces1 r k)

/-- A column spread over the row. -/
theorem spread_apply {α : Type} (x : S128x1.Idx → α) (r : Fin 128) (j : Fin 32768) :
    broadcastInDim S128x32768 ![0, 1] bcast_S128x1_S128x32768_0_1 x (ix2 r j) = x (ix2 r 0) :=
  broadcastInDim_apply _ _ _ _ (ix2 r 0) (fun a => by fin_cases a <;> rfl)

theorem column_apply {α : Type} (x : S128.Idx → α) (r : Fin 128) :
    broadcastInDim S128x1 ![0] bcast_S128_S128x1_0 x (ix2 r 0) = x (ix1 r) :=
  broadcastInDim_apply _ _ _ _ (ix1 r) (fun a => by fin_cases a; rfl)

theorem splat_apply (b : BitVec 32) (i : S128.Idx) :
    broadcastInDim S128 ![] bcast_S_S128 (constant (F := Idealize.ShloMosaic.Ideal) S_ .f32 b) i = FloatOps.ofBits .f32 b := rfl

/-- Scores less their row's maximum. -/
theorem low_gen (z : FVec Idealize.ShloMosaic.Ideal S128x32768 .f32) (r : Fin 128) (j : Fin 32768) :
    subf z (broadcastInDim S128x32768 ![0, 1] bcast_S128x1_S128x32768_0_1 (broadcastInDim S128x1 ![0] bcast_S128_S128x1_0
      (maximumf (broadcastInDim S128 ![] bcast_S_S128 (constant S_ .f32 0xFF800000#32))
        (Host.reduce FloatOps.maximumf z (constant S_ .f32 0xFF800000#32) reducesTo_S128x32768_S128_d1 h_S_)))) (ix2 r j)
      = (z (ix2 r j) : EReal) - Finset.univ.sup fun k : Fin 32768 => (z (ix2 r k) : EReal) := by
  rw [ValueIdx.subf_apply, spread_apply, column_apply, ValueIdx.maximumf_apply, rowMax, splat_apply, ofBits_bot, max_eq_right bot_le]

theorem soft_gen (y : FVec Idealize.ShloMosaic.Ideal S128x32768 .f32) (b : FVec Idealize.ShloMosaic.Ideal S128 .f32) (r : Fin 128) (j : Fin 32768) :
    addf (subf y (broadcastInDim S128x32768 ![0, 1] bcast_S128x1_S128x32768_0_1 (Host.log (broadcastInDim S128x1 ![0] bcast_S128_S128x1_0
      (Host.reduceAdd (Host.exp y) (constant S_ .f32 0x00000000#32) reducesTo_S128x32768_S128_d1 h_S_)))))
      (broadcastInDim S128x32768 ![0, 1] bcast_S128x1_S128x32768_0_1 (broadcastInDim S128x1 ![0] bcast_S128_S128x1_0 b)) (ix2 r j)
      = (y (ix2 r j) : EReal) - Ideal.log (∑ k : Fin 32768, Ideal.exp (y (ix2 r k))) + b (ix1 r) := by
  have hl : ∀ (x : FVec Idealize.ShloMosaic.Ideal S128x1 .f32) i, Host.log x i = Ideal.log (x i) := fun _ _ => rfl
  have he : ∀ i, Host.exp y i = Ideal.exp (y i) := fun _ => rfl
  rw [ValueIdx.addf_apply, ValueIdx.subf_apply, spread_apply, spread_apply, column_apply, hl, column_apply, rowSum]
  rw [Finset.sum_congr rfl fun k _ => he (ix2 r k)]

variable (W : Valuation τ sig (Elt Idealize.ShloMosaic.Ideal))

theorem low_apply (hX : ∀ i, ∃ r : ℝ, X W i = r) (hT : ∀ i, (T W i).toNat < 32768) (r : Fin 128) (j : Fin 32768) :
    low W (ix2 r j) = zAt (X W) (T W) r j - Finset.univ.sup (zAt (X W) (T W) r) := by
  unfold low res_main_call1_v5
  refine (low_gen (res_main_v29 W) r j).trans ?_
  have hz : ∀ k, pen W (ix2 r k) = zAt (X W) (T W) r k := pen_apply W hX hT r
  exact congrArg₂ (fun (a : EReal) (f : Fin 32768 → EReal) => a - Finset.univ.sup f) (hz j) (funext hz)

/-- A batch's scores, flattened. -/
abbrev flatScores : (⟨2, ![32, 131072]⟩ : Shape).Idx → EReal := res_main_v34 W

theorem cast_rows {α : Type} (x : S128x32768.Idx → α) (β : Fin 32) (j : Fin 131072) (w : Fin 4) (i : Fin 32768)
    (hw : j.val / 32768 = w.val) (hi : j.val % 32768 = i.val) :
    shapeCast S32x131072 x shapeCasts_S128x32768_S32x131072 (ix2 β j) = x (ix2 (rowOf β w) i) := by
  refine shapeCast_apply _ _ _ (ix2 (rowOf β w) i) ?_
  rw [Shape.rowMajor_val_two, Shape.rowMajor_val_two]
  show (β.val * 4 + w.val) * 32768 + i.val = β.val * 131072 + j.val
  omega

theorem flatScores_apply (hX : ∀ i, ∃ r : ℝ, X W i = r) (hT : ∀ i, (T W i).toNat < 32768) (β : Fin 32) (j : Fin 131072) :
    flatScores W (ix2 β j) = Cert.Proof.Merge.join (scores (X W) (B W) (T W) β) j := by
  have hj := j.2
  obtain ⟨w, hw⟩ : ∃ w : Fin 4, j.val / 32768 = w.val := ⟨⟨j.val / 32768, by omega⟩, rfl⟩
  obtain ⟨i, hi⟩ : ∃ i : Fin 32768, j.val % 32768 = i.val := ⟨⟨j.val % 32768, by omega⟩, rfl⟩
  unfold flatScores res_main_v34
  refine (cast_rows _ β j w i hw hi).trans ((soft_gen (res_main_call1_v5 W) _ _ _).trans ?_)
  have hl : ∀ k, low W (ix2 (rowOf β w) k) = zAt (X W) (T W) (rowOf β w) k - Finset.univ.sup (zAt (X W) (T W) (rowOf β w)) := low_apply W hX hT _
  refine (congrArg₂ (fun (a : EReal) (f : Fin 32768 → EReal) => a - Ideal.log (∑ k, Ideal.exp (f k)) + B W (ix1 (rowOf β w))) (hl i) (funext hl)).trans ?_
  unfold Cert.Proof.Merge.join scores soft
  rw [show (⟨j.val / 32768, by omega⟩ : Fin 4) = w from Fin.ext hw, show (⟨j.val % 32768, by omega⟩ : Fin 32768) = i from Fin.ext hi]

end Cert.Proof.Ref

end
-- ==== Proof.Select.lean ====
/- Choosing the first few kept entries of eight: what a stable sort by "kept, and among the first four kept" puts first. -/
module

public import proofs.«01_k».proof.Proof.Order

@[expose] public section

namespace Cert.Proof.Order

/-- How many of the first `s` are kept. -/
def cnt (K : ℕ → Bool) (s : ℕ) : ℕ := ((List.range s).map fun k => (K k).toNat).sum

theorem cnt_succ (K : ℕ → Bool) (s : ℕ) : cnt K (s + 1) = (K 0).toNat + cnt (fun k => K (k + 1)) s := by
  unfold cnt
  rw [List.range_succ_eq_map, List.map_cons, List.sum_cons, List.map_map]
  rfl

/-- A kept entry stands in the filtered list after as many as are kept before it. -/
theorem filter_at {α : Type} (p : α → Bool) (l : List α) : ∀ (s : ℕ) (a : α), l[s]? = some a → p a = true →
    (l.filter p)[cnt (fun k => (l[k]?).any p) s]? = some a := by
  induction l with
  | nil => intro s a h; simp at h
  | cons b l ih =>
    intro s a h ha
    cases s with
    | zero =>
      obtain rfl : b = a := by simpa using h
      rw [List.filter_cons_of_pos ha]
      rfl
    | succ s =>
      have h' : l[s]? = some a := by simpa using h
      rw [cnt_succ]
      have e := ih s a h' ha
      by_cases hb : p b = true
      · rw [List.filter_cons_of_pos hb, show (((b :: l)[0]?).any p).toNat = 1 by simp [hb], Nat.add_comm]
        simpa using e
      · rw [List.filter_cons_of_neg hb, show (((b :: l)[0]?).any p).toNat = 0 by simp [hb], Nat.zero_add]
        simpa using e

theorem filter_length {α : Type} (p : α → Bool) (l : List α) : (l.filter p).length = cnt (fun k => (l[k]?).any p) l.length := by
  induction l with
  | nil => rfl
  | cons b l ih =>
    rw [List.length_cons, cnt_succ]
    by_cases hb : p b = true
    · rw [List.filter_cons_of_pos hb, show (((b :: l)[0]?).any p).toNat = 1 by simp [hb], Nat.add_comm, List.length_cons, ih]
      simp
    · rw [List.filter_cons_of_neg hb, show (((b :: l)[0]?).any p).toNat = 0 by simp [hb], Nat.zero_add, ih]
      simp

/-- One for a kept entry among the first four kept, else nought. -/
def first4 (K : ℕ → Bool) (k : ℕ) : ℕ := if K k && decide (cnt K (k + 1) ≤ 4) then 1 else 0

/-- The rank, counted. -/
def rankOf (Y : ℕ → ℕ) (s : ℕ) : ℕ :=
  ((List.range 8).filter fun j => decide (Y s < Y j) || (decide (Y j = Y s) && decide (j < s))).length

open Classical in
theorem rank_eq (Y : ℕ → ℕ) (s : Fin 8) : rank (fun k : Fin 8 => Y k.val) s = rankOf Y s.val := by
  have e : rankOf Y s.val = ((List.finRange 8).filter fun j => decide (Before (fun k : Fin 8 => Y k.val) j s)).length := by
    unfold rankOf
    rw [← List.map_coe_finRange_eq_range, List.filter_map, List.length_map]
    congr 1
    refine List.filter_congr fun j _ => ?_
    simp only [Function.comp_apply]
    rw [Bool.eq_iff_iff]
    unfold Before
    simp only [Bool.or_eq_true, Bool.and_eq_true, decide_eq_true_eq, Fin.lt_def]
  rw [e]
  unfold rank
  rw [← List.toFinset_card_of_nodup ((List.nodup_finRange 8).filter _)]
  congr 1
  ext j
  simp

theorem pick_bits : ∀ b0 b1 b2 b3 b4 b5 b6 b7 : Bool, 4 ≤ cnt (fun k => [b0, b1, b2, b3, b4, b5, b6, b7].getD k false) 8 →
    ∀ s : Fin 8, rankOf (first4 fun k => [b0, b1, b2, b3, b4, b5, b6, b7].getD k false) s.val < 4 →
      [b0, b1, b2, b3, b4, b5, b6, b7].getD s.val false = true
      ∧ cnt (fun k => [b0, b1, b2, b3, b4, b5, b6, b7].getD k false) s.val
        = rankOf (first4 fun k => [b0, b1, b2, b3, b4, b5, b6, b7].getD k false) s.val := by
  decide +kernel

theorem cnt_congr {K K' : ℕ → Bool} (s : ℕ) (h : ∀ k < s, K k = K' k) : cnt K s = cnt K' s := by
  unfold cnt
  congr 1
  exact List.map_congr_left fun k hk => by rw [h k (List.mem_range.mp hk)]

/-- Among eight of which at least four are kept, the entry of rank `j < 4` is kept, and `j` are kept before it. -/
theorem pick (K : ℕ → Bool) (h4 : 4 ≤ cnt K 8) (s : Fin 8) (hs : rank (fun k : Fin 8 => first4 K k.val) s < 4) :
    K s.val = true ∧ cnt K s.val = rank (fun k : Fin 8 => first4 K k.val) s := by
  have hK : ∀ k < 8, K k = [K 0, K 1, K 2, K 3, K 4, K 5, K 6, K 7].getD k false := by
    intro k hk
    match k, hk with
    | 0, _ => rfl | 1, _ => rfl | 2, _ => rfl | 3, _ => rfl | 4, _ => rfl | 5, _ => rfl | 6, _ => rfl | 7, _ => rfl
  have h1 : ∀ k < 8, first4 K k = first4 (fun k => [K 0, K 1, K 2, K 3, K 4, K 5, K 6, K 7].getD k false) k := fun k hk => by
    unfold first4
    rw [hK k hk, cnt_congr (k + 1) fun i hi => hK i (by omega)]
  have h2 : rank (fun k : Fin 8 => first4 K k.val) s
      = rankOf (first4 fun k => [K 0, K 1, K 2, K 3, K 4, K 5, K 6, K 7].getD k false) s.val := by
    rw [← rank_eq]
    congr 1
    funext k
    exact h1 k.val k.2
  rw [h2] at hs ⊢
  have := pick_bits (K 0) (K 1) (K 2) (K 3) (K 4) (K 5) (K 6) (K 7) (by rwa [← cnt_congr 8 fun k hk => hK k hk]) s hs
  rw [hK s.val s.2, cnt_congr s.val fun k hk => hK k (by omega)]
  exact this

end Cert.Proof.Order

end
-- ==== Proof.RefSort.lean ====
/- The reference's two sorts, of a row each: its eight best by score, and its eight by a key of nought or one. -/
module

public import proofs.«01_k».proof.Proof.RefSoft
public import proofs.«01_k».proof.Proof.Select
public import Idealize.ShloMosaic.Lib.Routing.Ops
public import Idealize.ShloMosaic.Lib.Routing.Words

@[expose] public section

noncomputable section

namespace Cert.Proof.Ref

open Idealize.ShloMosaic Idealize.ShloMosaic.ValueIdx Idealize.ShloMosaic.StableHlo
open Cert.ReferenceIdeal Cert.ReferenceIdeal.Gen
open Cert.Proof.Order

/-- An index of a row, moved along it. -/
theorem along_row {R C : ℕ} (β : Fin R) (k s : Fin C) :
    Shape.Idx.along (s := ⟨2, ![R, C]⟩) (ix2 β k) (1 : Fin 2) s = ix2 β s := by
  funext a
  match a with
  | ⟨0, _⟩ => rfl
  | ⟨1, _⟩ => rfl

theorem gt_iff (x y : EReal) : ((FloatOps.cmpfTotal (F := Idealize.ShloMosaic.Ideal) (φ := .f32) .gt x y == 1#1) = true) ↔ y < x := by
  show ((Ideal.cmpTotal .gt x y == 1#1) = true) ↔ _
  show ((BitVec.ofBool (decide (y < x)) == 1#1) = true) ↔ _
  by_cases h : y < x <;> simp [h]

theorem slt_iff {x y : ℕ} (hx : x < 2 ^ 31) (hy : y < 2 ^ 31) :
    ((IntOp.cmpi .slt (BitVec.ofNat 32 x) (BitVec.ofNat 32 y) == 1#1) = true) ↔ x < y := by
  show ((BitVec.ofBool (BitVec.slt (BitVec.ofNat 32 x) (BitVec.ofNat 32 y)) == 1#1) = true) ↔ _
  rw [BitVec.slt_eq_decide, Cert.Proof.Tables.toInt_word _ x (by rw [BitVec.toNat_ofNat]; omega) hx,
    Cert.Proof.Tables.toInt_word _ y (by rw [BitVec.toNat_ofNat]; omega) hy]
  by_cases h : x < y <;> simp [h]

/-- A two-operand sort along a row, at a place. -/
theorem sort2_row {R C : ℕ} {α γ : Type} (cmp : α × γ → α × γ → BitVec 1) (x : (⟨2, ![R, C]⟩ : Shape).Idx → α)
    (y : (⟨2, ![R, C]⟩ : Shape).Idx → γ) (β : Fin R) (k : Fin C) (s : Fin C)
    (hs : sortedFrom (fun k k' => cmp (x (ix2 β k), y (ix2 β k)) (x (ix2 β k'), y (ix2 β k')) == 1#1) k = s) :
    (Host.sort2 ⟨2, ![R, C]⟩ 1 cmp x y).1 (ix2 β k) = x (ix2 β s) ∧ (Host.sort2 ⟨2, ![R, C]⟩ 1 cmp x y).2 (ix2 β k) = y (ix2 β s) := by
  have e : ∀ s : Fin C, Shape.Idx.along (s := ⟨2, ![R, C]⟩) (ix2 β k) (⟨1, Nat.one_lt_two⟩ : Fin 2) s = ix2 β s := along_row β k
  have hs' : sortedFrom (fun (l l' : Fin C) =>
      cmp (x (Shape.Idx.along (s := ⟨2, ![R, C]⟩) (ix2 β k) (⟨1, Nat.one_lt_two⟩ : Fin 2) l), y (Shape.Idx.along (s := ⟨2, ![R, C]⟩) (ix2 β k) (⟨1, Nat.one_lt_two⟩ : Fin 2) l))
        (x (Shape.Idx.along (s := ⟨2, ![R, C]⟩) (ix2 β k) (⟨1, Nat.one_lt_two⟩ : Fin 2) l'), y (Shape.Idx.along (s := ⟨2, ![R, C]⟩) (ix2 β k) (⟨1, Nat.one_lt_two⟩ : Fin 2) l')) == 1#1) k = s := by
    rw [← hs]
    congr 1
    funext l l'
    rw [e l, e l']
  unfold Host.sort2
  rw [dif_pos (show 1 < (⟨2, ![R, C]⟩ : Shape).rank from Nat.one_lt_two)]
  dsimp only
  exact ⟨congrArg x ((congrArg (Shape.Idx.along (s := ⟨2, ![R, C]⟩) (ix2 β k) (⟨1, Nat.one_lt_two⟩ : Fin 2)) hs').trans (e s)),
    congrArg y ((congrArg (Shape.Idx.along (s := ⟨2, ![R, C]⟩) (ix2 β k) (⟨1, Nat.one_lt_two⟩ : Fin 2)) hs').trans (e s))⟩

/-- The eight best of a row, and where they stand. -/
theorem topK_row (y : S32x131072.Idx → EReal) (β : Fin 32) (I : List (Fin 131072))
    (hI : I.map (rank fun j => y (ix2 β j)) = List.range 8) (k : Fin 8) (i : Fin 131072) (hk : I[k.val]? = some i) :
    (Host.topK S32x8 1 (FloatOps.cmpfTotal (F := Idealize.ShloMosaic.Ideal) (φ := .f32) .gt) y sliceFits_S32x131072_S32x8).1 (ix2 β k) = y (ix2 β i)
    ∧ (Host.topK S32x8 1 (FloatOps.cmpfTotal (F := Idealize.ShloMosaic.Ideal) (φ := .f32) .gt) y sliceFits_S32x131072_S32x8).2 (ix2 β k) = BitVec.ofNat 32 i.val := by
  have hk8 := k.2
  have hr : rank (fun j => y (ix2 β j)) i = k.val := by
    have := congrArg (·[k.val]?) hI
    simp only [List.getElem?_map, hk, Option.map_some, List.getElem?_range k.2, Option.some.injEq] at this
    exact this
  have hs := fun R hR => rank_inj ((rank_sortedFrom (Y := fun j => y (ix2 β j)) R hR ⟨k.val, by omega⟩).trans hr.symm)
  have h := sort2_row (fun l r : EReal × BitVec 32 => FloatOps.cmpfTotal (F := Idealize.ShloMosaic.Ideal) (φ := .f32) .gt l.1 r.1) y
    (iotaInDim S32x131072 32 1) β ⟨k.val, by omega⟩ i (hs _ fun j i => gt_iff (y (ix2 β j)) (y (ix2 β i)))
  have hx : ∀ a : Fin 2, ((ix2 β (⟨k.val, by omega⟩ : Fin 131072) : S32x131072.Idx) a).val = 0 + ((ix2 β k : S32x8.Idx) a).val := fun a => by
    fin_cases a <;> exact (Nat.zero_add _).symm
  exact ⟨(extractStridedSlice_apply _ _ sliceFits_S32x131072_S32x8 _ _ hx).trans h.1, (extractStridedSlice_apply _ _ sliceFits_S32x131072_S32x8 _ _ hx).trans h.2⟩

/-- The first four of a row of eight, by a key. -/
theorem sort_row (x : S32x8.Idx → BitVec 32) (β : Fin 32) (f : Fin 8 → ℕ) (hf : ∀ k, f k ≤ 1)
    (hx : ∀ k, x (ix2 β k) = BitVec.ofNat 32 (1 - f k)) (j : Fin 4) :
    ∃ s : Fin 8, rank f s = j.val ∧
      extractStridedSlice S32x4 ![0, 0] ((Host.sort2 S32x8 1 comparator_i32_i32_d1 x (iotaInDim S32x8 32 1)).2) slices_S32x8_S32x4_0_0 (ix2 β j)
        = BitVec.ofNat 32 s.val := by
  have hj := j.2
  have hR : ∀ a b, ((comparator_i32_i32_d1 (x (ix2 β a), iotaInDim S32x8 32 1 (ix2 β a)) (x (ix2 β b), iotaInDim S32x8 32 1 (ix2 β b)) == 1#1) = true)
      ↔ f b < f a := fun a b => by
    unfold comparator_i32_i32_d1
    dsimp only
    rw [hx, hx, slt_iff (by omega) (by omega)]
    have := hf a
    have := hf b
    omega
  refine ⟨_, rank_sortedFrom (Y := f) _ hR ⟨j.val, by omega⟩, ?_⟩
  have h := sort2_row comparator_i32_i32_d1 x (iotaInDim S32x8 32 1) β ⟨j.val, by omega⟩ _ rfl
  have hx : ∀ a : Fin 2, ((ix2 β (⟨j.val, by omega⟩ : Fin 8) : S32x8.Idx) a).val = (![0, 0] : Fin 2 → ℕ) a + ((ix2 β j : S32x4.Idx) a).val := fun a => by
    fin_cases a <;> exact (Nat.zero_add _).symm
  exact (extractStridedSlice_apply _ _ slices_S32x8_S32x4_0_0 _ _ hx).trans h.2

/-- A running count along a row of eight. -/
theorem count_row (x : IVec S32x8 32) (β : Fin 32) (f : ℕ → ℕ) (hx : ∀ i : Fin 8, x (ix2 β i) = BitVec.ofNat 32 (f i.val))
    (init : IVec S_ 32) (hinit : init ix0 = 0#32) (j : Fin 8) :
    Host.reduceWindow IntOp.addi ![1, 8] ![1, 1] ![0, 7] ![0, 0] x init reduceWindows_S32x8_S32x8_w1s1p0_0_w8s1p7_0 h_S_ (ix2 β j)
      = BitVec.ofNat 32 ((List.range (j.val + 1)).map f).sum := by
  have hv : init (Shape.Idx.first h_S_) = BitVec.ofNat 32 0 := (congrArg init (eq_ix0 _)).trans hinit
  have hj := j.isLt
  have hβ := β.isLt
  unfold Host.reduceWindow
  refine (Routing.foldl_addi_ofNat _ _ (fun n => if 7 ≤ j.val + n.val then f (j.val + n.val - 7) else 0) (fun n _ => ?_) _ 0 hv).trans ?_
  · have hw0 : ((⟨2, ![1, 8]⟩ : Shape).rowMajor.symm n 0).val = 0 := by erw [Routing.symm2]; rfl
    have hw : ((⟨2, ![1, 8]⟩ : Shape).rowMajor.symm n 1).val = n.val := by erw [Routing.symm2]; rfl
    have hn : n.val < 8 := (n.cast (Routing.numel2 _)).isLt
    dsimp only
    split
    · next hin =>
      have h1 := hin 1
      change 7 ≤ j.val * 1 + ((⟨2, ![1, 8]⟩ : Shape).rowMajor.symm n 1).val
        ∧ j.val * 1 + ((⟨2, ![1, 8]⟩ : Shape).rowMajor.symm n 1).val - 7 < 8 at h1
      rw [hw] at h1
      rw [if_pos (by omega)]
      refine (congrArg x (funext fun a => Fin.ext ?_)).trans (hx ⟨j.val + n.val - 7, by omega⟩)
      match a with
      | ⟨0, _⟩ =>
        show β.val * 1 + ((⟨2, ![1, 8]⟩ : Shape).rowMajor.symm n 0).val - 0 = β.val
        rw [hw0]
        omega
      | ⟨1, _⟩ =>
        show j.val * 1 + ((⟨2, ![1, 8]⟩ : Shape).rowMajor.symm n 1).val - 7 = j.val + n.val - 7
        rw [hw]
        omega
    · next hout =>
      rw [if_neg fun h7 => hout fun a => ?_]
      · exact hv
      · match a with
        | ⟨0, _⟩ =>
          show 0 ≤ β.val * 1 + ((⟨2, ![1, 8]⟩ : Shape).rowMajor.symm n 0).val ∧ β.val * 1 + ((⟨2, ![1, 8]⟩ : Shape).rowMajor.symm n 0).val - 0 < 32
          rw [hw0]
          omega
        | ⟨1, _⟩ =>
          show 7 ≤ j.val * 1 + ((⟨2, ![1, 8]⟩ : Shape).rowMajor.symm n 1).val
            ∧ j.val * 1 + ((⟨2, ![1, 8]⟩ : Shape).rowMajor.symm n 1).val - 7 < 8
          rw [hw]
          omega
  · rw [Nat.zero_add]
    congr 1
    refine Eq.trans ?_ (Routing.sum_window f 7 j.val (by omega))
    refine (congrArg List.sum (Routing.map_finRange_val _ fun n => if 7 ≤ j.val + n then f (j.val + n - 7) else 0)).trans ?_
    rw [show (⟨2, ![1, 8]⟩ : Shape).numel = 7 + 1 from Routing.numel2 8]

end Cert.Proof.Ref

end
-- ==== Proof.RefWords.lean ====
/- The reference's word arithmetic on places: the beam and the token of a place, whether it is kept, and its key. -/
module

public import proofs.«01_k».proof.Proof.RefSort

@[expose] public section

noncomputable section

namespace Cert.Proof.Ref

open Idealize.ShloMosaic Idealize.ShloMosaic.ValueIdx Idealize.ShloMosaic.StableHlo
open Cert.ReferenceIdeal Cert.ReferenceIdeal.Gen
open Cert.Proof.Order

abbrev spread8 {w : ℕ} (x : IVec S_ w) : IVec S32x8 w := broadcastInDim S32x8 ![] bcast_S_S32x8 x

theorem spread8_apply {w : ℕ} (x : IVec S_ w) (c : BitVec w) (hx : ∀ q, x q = c) (i : S32x8.Idx) : spread8 x i = c := hx _

/-- A place's beam: its quotient by the row length, rounded down. -/
theorem beam_word (x : IVec S32x8 32) (b : IVec S_ 32) (hb : ∀ q, b q = 32768#32) (i : S32x8.Idx) (n : ℕ) (hn : n < 131072)
    (hx : x i = BitVec.ofNat 32 n) :
    select (andi (cmpi .ne (signi x) (spread8 (signi b))) (cmpi .ne (Host.remsi x (spread8 b)) (spread8 (constantI S_ 32 0#32))))
      (subi (Host.divsi x (spread8 b)) (spread8 (constantI S_ 32 1#32))) (Host.divsi x (spread8 b)) i = BitVec.ofNat 32 (n / 32768) := by
  have hd : Host.divsi x (spread8 b) i = BitVec.ofNat 32 (n / 32768) := by
    show IntOp.divsi .host (x i) (spread8 b i) = _
    rw [hx, spread8_apply b _ hb]
    exact Routing.divsi_word .host (by omega) (by decide) (by decide)
  have hr : Host.remsi x (spread8 b) i = BitVec.ofNat 32 (n % 32768) := by
    show IntOp.remsi .host (x i) (spread8 b i) = _
    rw [hx, spread8_apply b _ hb]
    exact Routing.remsi_word .host (by omega) (by decide) (by decide)
  show Scalar.select (IntOp.andi (IntOp.cmpi .ne (signi x i) (spread8 (signi b) i)) (IntOp.cmpi .ne (Host.remsi x (spread8 b) i) 0#32)) _ (Host.divsi x (spread8 b) i) = _
  rw [hd, hr]
  have hs : spread8 (signi b) i = 1#32 := by
    refine spread8_apply _ _ (fun q => ?_) i
    unfold signi
    rw [hb q]
    rfl
  have hc : IntOp.andi (IntOp.cmpi .ne (signi x i) (spread8 (signi b) i)) (IntOp.cmpi .ne (BitVec.ofNat 32 (n % 32768)) 0#32) = 0#1 := by
    rw [hs]
    rcases Nat.eq_zero_or_pos n with rfl | h0
    · unfold signi
      rw [hx]
      rfl
    · have h1 : signi x i = 1#32 := by
        unfold signi
        rw [hx, if_neg (by rw [← BitVec.toNat_inj]; simp; omega), if_neg]
        · rfl
        · rw [BitVec.msb_eq_decide, BitVec.toNat_ofNat]
          simp
          omega
      rw [h1]
      exact BitVec.zero_and
  rw [hc]
  rfl

/-- A place's token: its remainder by the row length. -/
theorem token_word (x : IVec S32x8 32) (b : IVec S_ 32) (hb : ∀ q, b q = 32768#32) (i : S32x8.Idx) (n : ℕ) (hn : n < 131072)
    (hx : x i = BitVec.ofNat 32 n) :
    select (andi (cmpi .ne (cmpi .slt (Host.remsi x (spread8 b)) (spread8 (constantI S_ 32 0#32))) (spread8 (cmpi .slt b (constantI S_ 32 0#32))))
        (cmpi .ne (Host.remsi x (spread8 b)) (spread8 (constantI S_ 32 0#32))))
      (addi (Host.remsi x (spread8 b)) (spread8 b)) (Host.remsi x (spread8 b)) i = BitVec.ofNat 32 (n % 32768) := by
  have hr : Host.remsi x (spread8 b) i = BitVec.ofNat 32 (n % 32768) := by
    show IntOp.remsi .host (x i) (spread8 b i) = _
    rw [hx, spread8_apply b _ hb]
    exact Routing.remsi_word .host (by omega) (by decide) (by decide)
  show Scalar.select (IntOp.andi (IntOp.cmpi .ne (IntOp.cmpi .slt (Host.remsi x (spread8 b) i) 0#32) (spread8 (cmpi .slt b (constantI S_ 32 0#32)) i))
    (IntOp.cmpi .ne (Host.remsi x (spread8 b) i) 0#32)) _ (Host.remsi x (spread8 b) i) = _
  rw [hr]
  have hs : spread8 (cmpi .slt b (constantI S_ 32 0#32)) i = 0#1 := by
    refine spread8_apply _ _ (fun q => ?_) i
    show IntOp.cmpi .slt (b q) 0#32 = _
    rw [hb q]
    rfl
  have hl : IntOp.cmpi .slt (BitVec.ofNat 32 (n % 32768)) 0#32 = 0#1 := by
    have := (slt_iff (x := n % 32768) (y := 0) (by omega) (by omega)).not.mpr (by omega)
    rcases Nat.lt_or_ge (IntOp.cmpi .slt (BitVec.ofNat 32 (n % 32768)) 0#32).toNat 1 with h | h
    · exact BitVec.eq_of_toNat_eq (by simp; omega)
    · refine absurd ?_ this
      rw [beq_iff_eq]
      exact BitVec.eq_of_toNat_eq (by simp; omega)
  rw [hs, hl]
  have hc : ∀ d, IntOp.andi (IntOp.cmpi .ne (0#1) (0#1)) d = 0#1 := fun d => BitVec.zero_and
  rw [hc]
  rfl

/-- Whether a place is kept. -/
theorem kept_word (x : IVec S32x8 32) (i : S32x8.Idx) (t : ℕ) (ht : t < 32768) (hx : x i = BitVec.ofNat 32 t) :
    cmpi .ne x (spread8 (constantI S_ 32 2#32)) i = BitVec.ofBool (decide (t ≠ 2)) := by
  show IntOp.cmpi .ne (x i) 2#32 = _
  rw [hx]
  show BitVec.ofBool (BitVec.ofNat 32 t != 2#32) = _
  congr 1
  rw [Bool.eq_iff_iff, bne_iff_ne, decide_eq_true_eq, ne_eq, ne_eq, ← BitVec.toNat_inj]
  simp
  omega

/-- The keys of a row: nought for the first four kept. -/
theorem key_word (x : IVec S32x8 1) (β : Fin 32) (K : ℕ → Bool) (hx : ∀ k : Fin 8, x (ix2 β k) = BitVec.ofBool (K k.val))
    (init : IVec S_ 32) (hinit : init ix0 = 0#32) (k : Fin 8) :
    extui 32 (noti (andi x (cmpi .sle (Host.reduceWindow IntOp.addi ![1, 8] ![1, 1] ![0, 7] ![0, 0] (extui 32 x natLt_1_32) init
      reduceWindows_S32x8_S32x8_w1s1p0_0_w8s1p7_0 h_S_) (spread8 (constantI S_ 32 4#32))))) natLt_1_32 (ix2 β k)
      = BitVec.ofNat 32 (1 - first4 K k.val) := by
  have hk := k.2
  have hc := count_row (extui 32 x natLt_1_32) β (fun k => (K k).toNat) (fun i => by
    show (x (ix2 β i)).setWidth 32 = _
    rw [hx]
    cases K i.val <;> rfl) init hinit k
  show (~~~(IntOp.andi (x (ix2 β k)) (IntOp.cmpi .sle (Host.reduceWindow IntOp.addi ![1, 8] ![1, 1] ![0, 7] ![0, 0] (extui 32 x natLt_1_32) init
      reduceWindows_S32x8_S32x8_w1s1p0_0_w8s1p7_0 h_S_ (ix2 β k)) 4#32))).setWidth 32 = _
  rw [hc, hx]
  change (~~~(IntOp.andi (BitVec.ofBool (K k.val)) (IntOp.cmpi .sle (BitVec.ofNat 32 (cnt K (k.val + 1))) 4#32))).setWidth 32 = _
  have hb : ∀ (K : ℕ → Bool) (s : ℕ), cnt K s ≤ s := fun K s => by
    induction s generalizing K with
    | zero => exact le_refl _
    | succ s ih =>
      rw [cnt_succ]
      have := ih fun k => K (k + 1)
      have := Bool.toNat_le (K 0)
      omega
  have hle := hb K (k.val + 1)
  have e : IntOp.cmpi .sle (BitVec.ofNat 32 (cnt K (k.val + 1))) 4#32 = BitVec.ofBool (decide (cnt K (k.val + 1) ≤ 4)) := by
    generalize cnt K (k.val + 1) = c at hle
    have : c ≤ 8 := by omega
    interval_cases c <;> rfl
  rw [e]
  unfold first4
  cases K k.val <;> cases decide (cnt K (k.val + 1) ≤ 4) <;> rfl

end Cert.Proof.Ref

end
-- ==== Proof.Arrays.lean ====
/- The arrays the two calls leave: each point of the row call writes its row's block, the merge call writes whole arrays. -/
module

public import proofs.«01_k».proof.Proof.Run

@[expose] public section

noncomputable section

namespace Cert.Proof.Entry

open Idealize.ShloMosaic Idealize.ShloMosaic.ValueIdx
open Idealize.ShloMosaic.TcCoe
open Idealize.ShloMosaic.Pipeline (Dat Cfg Window)
open Cert.KernelIdeal Cert.KernelIdeal.Gen
open Cert.Proof.Row (rowV rowP ext2 ext3)
open Cert.Proof.Merge (outS outT outI)

variable {F : FTy → Type} [FloatOps F] [Named F]

/-- The grid point of row `r`. -/
def pt0 (r : Fin 128) : Fin cfg0.N := ⟨r.val, by rw [show cfg0.N = 128 from N_0]; exact r.2⟩

theorem index0 : ∀ t : Fin grid0.N, ∀ a : Fin 3,
    win0_0.index t a = (![t.val, 0, 0] : Fin 3 → ℕ) a ∧ win0_1.index t a = (![t.val, 0, 0] : Fin 3 → ℕ) a
    ∧ win0_2.index t a = (![t.val, 0, 0] : Fin 3 → ℕ) a ∧ win0_3.index t a = (![t.val, 0, 0] : Fin 3 → ℕ) a
    ∧ win0_4.index t a = (![t.val, 0, 0] : Fin 3 → ℕ) a := by
  decide +kernel

variable (V : (c : Dev nD) → (b : Ref sig .tc) → Buf (Elt F) ((c : Thread nD τ).loc b)) (c : Dev nD)

theorem tokB_apply (r : Fin 128) (k : Fin 50) : tokB V c (pt0 r) (ix3 0 0 k) = V c main_v1 (ix3 r 0 k) := by
  show V c main_v1 _ = _
  congr 1
  funext a
  apply Fin.ext
  refine (Window.rect_emb_val win0_0 (pt0 r) (ix3 0 0 k) a).trans ?_
  rw [(index0 (pt0 r) a).1]
  fin_cases a <;> simp [pt0]

theorem beamB_apply (r : Fin 128) : beamB V c (pt0 r) (ix3 0 0 0) = V c main_v2 (ix3 r 0 0) := by
  show V c main_v2 _ = _
  congr 1
  funext a
  apply Fin.ext
  refine (Window.rect_emb_val win0_1 (pt0 r) (ix3 0 0 0) a).trans ?_
  rw [(index0 (pt0 r) a).2.1]
  fin_cases a <;> simp [pt0]

theorem rowB_apply (r : Fin 128) (i : Fin 256) (j : Fin 128) : rowB V c (pt0 r) (ix3 0 i j) = V c main_v0 (ix3 r i j) := by
  show V c main_v0 _ = _
  congr 1
  funext a
  apply Fin.ext
  refine (Window.rect_emb_val win0_2 (pt0 r) (ix3 0 i j) a).trans ?_
  rw [(index0 (pt0 r) a).2.2.1]
  fin_cases a <;> simp [pt0]

/-- The values found, row by row. -/
def valuesOf : S128x1x128.Idx → F .f32 := fun i =>
  rowV (rowB V c (pt0 (i 0))) (tokB V c (pt0 (i 0))) (beamB V c (pt0 (i 0))) (ix3 0 0 (i 2))
def placesOf : S128x1x128.Idx → BitVec 32 := fun i =>
  rowP (rowB V c (pt0 (i 0))) (tokB V c (pt0 (i 0))) (beamB V c (pt0 (i 0))) (ix3 0 0 (i 2))

theorem emb0_3 (t : Fin cfg0.N) (r : Fin 128) (hr : r.val = t.val) (k : Fin 128) :
    ((cfg0.win 3).blk t).view.emb (ix3 0 0 k) = (ix3 r 0 k : S128x1x128.Idx) := by
  funext a
  apply Fin.ext
  refine (Window.rect_emb_val win0_3 t (ix3 0 0 k) a).trans ?_
  rw [(index0 t a).2.2.2.1]
  fin_cases a <;> simp [hr]

theorem emb0_4 (t : Fin cfg0.N) (r : Fin 128) (hr : r.val = t.val) (k : Fin 128) :
    ((cfg0.win 4).blk t).view.emb (ix3 0 0 k) = (ix3 r 0 k : S128x1x128.Idx) := by
  funext a
  apply Fin.ext
  refine (Window.rect_emb_val win0_4 t (ix3 0 0 k) a).trans ?_
  rw [(index0 t a).2.2.2.2]
  fin_cases a <;> simp [hr]

theorem row_of (t : Fin cfg0.N) : ∃ r : Fin 128, r.val = t.val ∧ pt0 r = t :=
  ⟨⟨t.val, lt_of_lt_of_eq t.2 N_0⟩, rfl, rfl⟩

theorem arr0_3 : (dat0 V c).arrAt 3 cfg0.N = valuesOf V c := by
  refine Dat.arrAt_eq_of_cover _ 3 _ (fun t _ => ?_) (fun i => ?_)
  · obtain ⟨r, hr, rfl⟩ := row_of t
    refine ext3 fun a b k => ?_
    obtain rfl := Subsingleton.elim a 0
    obtain rfl := Subsingleton.elim b 0
    show _ = valuesOf V c (((cfg0.win 3).blk (pt0 r)).view.emb (ix3 0 0 k))
    rw [emb0_3 _ r hr]
    rfl
  · refine ⟨pt0 (i 0), flush0_3 _, ?_⟩
    have h := ((cfg0.win 3).blk (pt0 (i 0))).view.emb_mem_set (ix3 0 0 (i 2))
    rw [emb0_3 (pt0 (i 0)) (i 0) rfl (i 2)] at h
    have e : (ix3 (i 0) 0 (i 2) : S128x1x128.Idx) = i := by
      funext a
      match a with
      | 0 => rfl
      | 1 => exact Subsingleton.elim (α := Fin 1) _ _
      | 2 => rfl
    rwa [e] at h

theorem arr0_4 : (dat0 V c).arrAt 4 cfg0.N = placesOf V c := by
  refine Dat.arrAt_eq_of_cover _ 4 _ (fun t _ => ?_) (fun i => ?_)
  · obtain ⟨r, hr, rfl⟩ := row_of t
    refine ext3 fun a b k => ?_
    obtain rfl := Subsingleton.elim a 0
    obtain rfl := Subsingleton.elim b 0
    show _ = placesOf V c (((cfg0.win 4).blk (pt0 r)).view.emb (ix3 0 0 k))
    rw [emb0_4 _ r hr]
    rfl
  · refine ⟨pt0 (i 0), flush0_4 _, ?_⟩
    have h := ((cfg0.win 4).blk (pt0 (i 0))).view.emb_mem_set (ix3 0 0 (i 2))
    rw [emb0_4 (pt0 (i 0)) (i 0) rfl (i 2)] at h
    have e : (ix3 (i 0) 0 (i 2) : S128x1x128.Idx) = i := by
      funext a
      match a with
      | 0 => rfl
      | 1 => exact Subsingleton.elim (α := Fin 1) _ _
      | 2 => rfl
    rwa [e] at h

/-! ## The merge call: its blocks are whole arrays -/

theorem index1 : ∀ t : Fin grid1.N,
    (∀ a : Fin 3, win1_0.index t a = 0 ∧ win1_1.index t a = 0 ∧ win1_2.index t a = 0 ∧ win1_5.index t a = 0)
    ∧ ∀ a : Fin 2, win1_3.index t a = 0 ∧ win1_4.index t a = 0 ∧ win1_6.index t a = 0 := by
  decide +kernel

theorem scB_eq : scB V c = V c main_v4 := by
  refine ext3 fun i j k => ?_
  show V c main_v4 _ = _
  congr 1
  funext a
  exact Fin.ext (Window.rect_emb_val_of_index_zero win1_0 t1_0 a ((index1 t1_0).1 a).1 (ix3 i j k))

theorem tkB_eq : tkB V c = V c main_v5 := by
  refine ext3 fun i j k => ?_
  show V c main_v5 _ = _
  congr 1
  funext a
  exact Fin.ext (Window.rect_emb_val_of_index_zero win1_1 t1_0 a ((index1 t1_0).1 a).2.1 (ix3 i j k))

theorem hiB_eq : hiB V c = V c main_v6 := by
  refine ext3 fun i j k => ?_
  show V c main_v6 _ = _
  congr 1
  funext a
  exact Fin.ext (Window.rect_emb_val_of_index_zero win1_2 t1_0 a ((index1 t1_0).1 a).2.2.1 (ix3 i j k))

theorem emb1_3 (t : Fin cfg1.N) (i : S32x4.Idx) : ((cfg1.win 3).blk t).view.emb i = i :=
  funext fun a => Fin.ext (Window.rect_emb_val_of_index_zero win1_3 t a ((index1 t).2 a).1 i)
theorem emb1_4 (t : Fin cfg1.N) (i : S32x4.Idx) : ((cfg1.win 4).blk t).view.emb i = i :=
  funext fun a => Fin.ext (Window.rect_emb_val_of_index_zero win1_4 t a ((index1 t).2 a).2.1 i)
theorem emb1_5 (t : Fin cfg1.N) (i : S32x4x51.Idx) : ((cfg1.win 5).blk t).view.emb i = i :=
  funext fun a => Fin.ext (Window.rect_emb_val_of_index_zero win1_5 t a ((index1 t).1 a).2.2.2 i)
theorem emb1_6 (t : Fin cfg1.N) (i : S32x4.Idx) : ((cfg1.win 6).blk t).view.emb i = i :=
  funext fun a => Fin.ext (Window.rect_emb_val_of_index_zero win1_6 t a ((index1 t).2 a).2.2 i)

theorem arr1_3 : (dat1 V c).arrAt 3 cfg1.N = outS (V c main_v4) (V c main_v5) := by
  refine Dat.arrAt_eq_of_cover _ 3 _ (fun t _ => ?_) (fun i => ⟨t1_0, flush1_3 _, ?_⟩)
  · rw [← scB_eq V c, ← tkB_eq V c]
    refine ext2 fun a b => ?_
    show _ = outS (scB V c) (tkB V c) (((cfg1.win 3).blk t).view.emb (ix2 a b))
    rw [emb1_3]
    rfl
  · have h := ((cfg1.win 3).blk t1_0).view.emb_mem_set i
    rwa [emb1_3] at h

theorem arr1_4 : (dat1 V c).arrAt 4 cfg1.N = outT (V c main_v4) (V c main_v5) := by
  refine Dat.arrAt_eq_of_cover _ 4 _ (fun t _ => ?_) (fun i => ⟨t1_0, flush1_4 _, ?_⟩)
  · rw [← scB_eq V c, ← tkB_eq V c]
    refine ext2 fun a b => ?_
    show _ = outT (scB V c) (tkB V c) (((cfg1.win 4).blk t).view.emb (ix2 a b))
    rw [emb1_4]
    rfl
  · have h := ((cfg1.win 4).blk t1_0).view.emb_mem_set i
    rwa [emb1_4] at h

theorem arr1_5 : (dat1 V c).arrAt 5 cfg1.N = outI (V c main_v4) (V c main_v5) (V c main_v6) := by
  refine Dat.arrAt_eq_of_cover _ 5 _ (fun t _ => ?_) (fun i => ⟨t1_0, flush1_5 _, ?_⟩)
  · rw [← scB_eq V c, ← tkB_eq V c, ← hiB_eq V c]
    refine ext3 fun a b k => ?_
    show _ = outI (scB V c) (tkB V c) (hiB V c) (((cfg1.win 5).blk t).view.emb (ix3 a b k))
    rw [emb1_5]
    rfl
  · have h := ((cfg1.win 5).blk t1_0).view.emb_mem_set i
    rwa [emb1_5] at h

theorem arr1_6 : (dat1 V c).arrAt 6 cfg1.N = outS (V c main_v4) (V c main_v5) := by
  refine Dat.arrAt_eq_of_cover _ 6 _ (fun t _ => ?_) (fun i => ⟨t1_0, flush1_6 _, ?_⟩)
  · rw [← scB_eq V c, ← tkB_eq V c]
    refine ext2 fun a b => ?_
    show _ = outS (scB V c) (tkB V c) (((cfg1.win 6).blk t).view.emb (ix2 a b))
    rw [emb1_6]
    rfl
  · have h := ((cfg1.win 6).blk t1_0).view.emb_mem_set i
    rwa [emb1_6] at h

end Cert.Proof.Entry

end
-- ==== Proof.Kernel.lean ====
/- The kernel's four results, element by element. -/
module

public import proofs.«01_k».proof.Proof.Arrays
public import proofs.«01_k».proof.Proof.Score
public import proofs.«01_k».proof.Proof.PreFinite

@[expose] public section

noncomputable section

namespace Cert.Proof.Results

open Idealize.ShloMosaic Idealize.ShloMosaic.ValueIdx Idealize.ShloMosaic.TcCoe
open Cert.Proof.Order Cert.Proof.Merge Cert.Proof.Score

/-! ## What both programs compute -/

abbrev Scores := (⟨2, ![128, 32768]⟩ : Shape).Idx → EReal
abbrev Beams := (⟨1, ![128]⟩ : Shape).Idx → EReal
abbrev Tokens := (⟨2, ![128, 50]⟩ : Shape).Idx → BitVec 32

theorem div_lt (i : Ix) : i.val / 32768 < 4 := by have := i.2; omega

/-- What the four results hold in batch `β`, whose eight best entries are `I`, best first: slot `j` takes the `j`-th of them
    that is not the end token. -/
def Holds (X : Scores) (B : Beams) (T : Tokens) (β : Fin 32) (I : List Ix)
    (v0 : (⟨2, ![32, 4]⟩ : Shape).Idx → EReal) (v1 : (⟨2, ![32, 4]⟩ : Shape).Idx → BitVec 32)
    (v2 : (⟨2, ![128, 51]⟩ : Shape).Idx → BitVec 32) (v3 : (⟨1, ![128]⟩ : Shape).Idx → EReal) : Prop :=
  ∀ (j : Fin 4) (i : Ix), (I.filter keep)[j.val]? = some i →
    v0 (ix2 β j) = join (scores X B T β) i
    ∧ v1 (ix2 β j) = BitVec.ofNat 32 (i.val % 32768)
    ∧ (∀ k : Fin 51, v2 (ix2 (rowOf β j) k)
        = if hk : k.val < 50 then T (ix2 (rowOf β ⟨i.val / 32768, div_lt i⟩) ⟨k.val, hk⟩) else BitVec.ofNat 32 (i.val % 32768))
    ∧ v3 (ix1 (rowOf β j)) = join (scores X B T β) i

theorem rowOf_surj (r : Fin 128) : ∃ β w, r = rowOf β w :=
  ⟨⟨r.val / 4, by have := r.2; omega⟩, ⟨r.val % 4, by omega⟩, Fin.ext (by show r.val = r.val / 4 * 4 + r.val % 4; omega)⟩

/-- Two quadruples of results that hold the same are the same. -/
theorem holds_unique {X : Scores} {B : Beams} {T : Tokens} {I : Fin 32 → List Ix}
    (hI : ∀ β, (I β).map (rank (join (scores X B T β))) = List.range 8) {v0 u0 v1 u1 v2 u2 v3 u3}
    (hv : ∀ β, Holds X B T β (I β) v0 v1 v2 v3) (hu : ∀ β, Holds X B T β (I β) u0 u1 u2 u3) :
    v0 = u0 ∧ v1 = u1 ∧ v2 = u2 ∧ v3 = u3 := by
  have slot : ∀ β (j : Fin 4), ∃ i, ((I β).filter keep)[j.val]? = some i := fun β j =>
    ⟨_, List.getElem?_eq_getElem (Nat.lt_of_lt_of_le j.2 (four_kept _ (hI β)))⟩
  refine ⟨?_, ?_, ?_, ?_⟩
  · refine Cert.Proof.Row.ext2 fun β j => ?_
    obtain ⟨i, hi⟩ := slot β j
    rw [(hv β j i hi).1, (hu β j i hi).1]
  · refine Cert.Proof.Row.ext2 fun β j => ?_
    obtain ⟨i, hi⟩ := slot β j
    rw [(hv β j i hi).2.1, (hu β j i hi).2.1]
  · refine Cert.Proof.Row.ext2 fun r k => ?_
    obtain ⟨β, j, rfl⟩ := rowOf_surj r
    obtain ⟨i, hi⟩ := slot β j
    rw [(hv β j i hi).2.2.1 k, (hu β j i hi).2.2.1 k]
  · funext r
    obtain ⟨q, rfl⟩ : ∃ q : Fin 128, r = ix1 q := ⟨r 0, eq_ix1 r⟩
    obtain ⟨β, j, rfl⟩ := rowOf_surj q
    obtain ⟨i, hi⟩ := slot β j
    rw [(hv β j i hi).2.2.2, (hu β j i hi).2.2.2]

/-! ## The kernel -/

section Kernel

open Cert.KernelIdeal Cert.KernelIdeal.Gen Cert.Proof.Row Cert.Proof.Entry Cert.Proof.Frames

variable (m : (ℓ : Loc nD τ sig) → Buf (Elt Ideal) ℓ) (c : Dev nD)

abbrev argX : Scores := m ((c.tc : Thread nD τ).loc main_arg0)
abbrev argB : Beams := m ((c.tc : Thread nD τ).loc main_arg1)
abbrev argT : Tokens := m ((c.tc : Thread nD τ).loc main_arg2)

theorem row_in (β : Fin 32) (w : Fin 4) (j : Fin 32768) :
    rowB (bufs (V1 m)) c (pt0 (rowOf β w)) (at3 j) = argX m c (ix2 (rowOf β w) j) := by
  have h := j.2
  refine (rowB_apply _ c (rowOf β w) ⟨j.val / 128, by omega⟩ ⟨j.val % 128, by omega⟩).trans ?_
  show V1 m c main_v0 _ = _
  rw [V1_v0]
  refine shapeCast_apply _ _ _ (ix2 (rowOf β w) j) ?_
  rw [Shape.rowMajor_val_two, Shape.rowMajor_val_three]
  show (rowOf β w).val * 32768 + j.val = ((rowOf β w).val * 256 + j.val / 128) * 128 + j.val % 128
  omega

theorem tok_in (β : Fin 32) (w : Fin 4) (n : Fin 50) :
    tokB (bufs (V1 m)) c (pt0 (rowOf β w)) (ix3 0 0 n) = argT m c (ix2 (rowOf β w) n) := by
  refine (tokB_apply _ c (rowOf β w) n).trans ?_
  show V1 m c main_v1 _ = _
  rw [V1_v1]
  refine shapeCast_apply _ _ _ (ix2 (rowOf β w) n) ?_
  rw [Shape.rowMajor_val_two, Shape.rowMajor_val_three]
  show (rowOf β w).val * 50 + n.val = ((rowOf β w).val * 1 + 0) * 50 + n.val
  omega

theorem beam_in (β : Fin 32) (w : Fin 4) :
    beamB (bufs (V1 m)) c (pt0 (rowOf β w)) (ix3 0 0 0) = argB m c (ix1 (rowOf β w)) := by
  refine (beamB_apply _ c (rowOf β w)).trans ?_
  show V1 m c main_v2 _ = _
  rw [V1_v2]
  refine shapeCast_apply _ _ _ (ix1 (rowOf β w)) ?_
  rw [Shape.rowMajor_val_one, Shape.rowMajor_val_three]
  show (rowOf β w).val = ((rowOf β w).val * 1 + 0) * 1 + 0
  omega

theorem row_scores (β : Fin 32) (w : Fin 4) :
    entry (scoreRow (F := Ideal) (rowB (bufs (V1 m)) c (pt0 (rowOf β w))) (tokB (bufs (V1 m)) c (pt0 (rowOf β w)))
      (beamB (bufs (V1 m)) c (pt0 (rowOf β w)))) = scores (argX m c) (argB m c) (argT m c) β w :=
  entry_scoreRow _ _ _ β w _ _ _ (row_in m c β w) (tok_in m c β w) (beam_in m c β w)

theorem cast_v4 (β : Fin 32) (w : Fin 4) (k : Fin 128) :
    V3' m c main_v4 (ix3 β w k) = valuesOf (bufs (V1 m)) c (ix3 (rowOf β w) 0 k) := by
  show V3 m (outs m) c main_v4 _ = _
  rw [V3_v4, out2_0, arr0_3]
  refine shapeCast_apply _ _ _ (ix3 (rowOf β w) 0 k) ?_
  rw [Shape.rowMajor_val_three, Shape.rowMajor_val_three]
  show ((β.val * 4 + w.val) * 1 + 0) * 128 + k.val = (β.val * 4 + w.val) * 128 + k.val
  omega

theorem cast_v5 (β : Fin 32) (w : Fin 4) (k : Fin 128) :
    V3' m c main_v5 (ix3 β w k) = placesOf (bufs (V1 m)) c (ix3 (rowOf β w) 0 k) := by
  show V3 m (outs m) c main_v5 _ = _
  rw [V3_v5, out2_1, arr0_4]
  refine shapeCast_apply _ _ _ (ix3 (rowOf β w) 0 k) ?_
  rw [Shape.rowMajor_val_three, Shape.rowMajor_val_three]
  show ((β.val * 4 + w.val) * 1 + 0) * 128 + k.val = (β.val * 4 + w.val) * 128 + k.val
  omega

theorem cast_v6 (β : Fin 32) (w : Fin 4) (k : Fin 50) :
    V3' m c main_v6 (ix3 β w k) = argT m c (ix2 (rowOf β w) k) := by
  show V3 m (outs m) c main_v6 _ = _
  rw [V3_v6, V2_arg2]
  refine shapeCast_apply _ _ _ (ix2 (rowOf β w) k) ?_
  rw [Shape.rowMajor_val_two, Shape.rowMajor_val_three]
  rfl

/-- The kernel's results in every batch. -/
theorem kernel_holds (hX : ∀ i, ∃ r : ℝ, argX m c i = r) (hB : ∀ i, ∃ r : ℝ, argB m c i = r) (β : Fin 32) :
    ∃ I : List Ix, I.map (rank (join (scores (argX m c) (argB m c) (argT m c) β))) = List.range 8
      ∧ Holds (argX m c) (argB m c) (argT m c) β I (V5 m (outs m) c main_v7_0) (V5 m (outs m) c main_v7_1)
        (V5 m (outs m) c main_v8) (V5 m (outs m) c main_v9) := by
  have hL : ∀ w i, scores (argX m c) (argB m c) (argT m c) β w i ≠ ⊥ := fun w i => by
    obtain ⟨r, hr⟩ := scores_real (argX m c) (argB m c) (argT m c) hX hB β w i
    rw [hr]
    exact EReal.coe_ne_bot r
  have hr : ∀ (w : Fin 4) (k : Fin 8), ∃ i, rank (scores (argX m c) (argB m c) (argT m c) β w) i = k.val
      ∧ V3' m c main_v4 (ix3 β w ⟨k.val, Nat.lt_trans k.isLt (by decide)⟩) = scores (argX m c) (argB m c) (argT m c) β w i
      ∧ V3' m c main_v5 (ix3 β w ⟨k.val, Nat.lt_trans k.isLt (by decide)⟩) = BitVec.ofNat 32 i.val := fun w k => by
    have h := row_spec (rowB (bufs (V1 m)) c (pt0 (rowOf β w))) (tokB (bufs (V1 m)) c (pt0 (rowOf β w)))
      (beamB (bufs (V1 m)) c (pt0 (rowOf β w))) (by rw [row_scores]; exact hL w) ⟨k.val, Nat.lt_trans k.isLt (by decide)⟩ k.2
    rw [row_scores] at h
    obtain ⟨i, h1, h2, h3⟩ := h
    exact ⟨i, h1, (cast_v4 m c β w _).trans h2, (cast_v5 m c β w _).trans h3⟩
  choose p hp1 hp2 hp3 using hr
  obtain ⟨I, hI, hs⟩ := batch_spec (β := β) (x := V3' m c main_v4) (y := V3' m c main_v5) hL hp1 hp2 hp3
  refine ⟨I, hI, fun j i hi => ?_⟩
  have hq := hs j i hi
  refine ⟨?_, ?_, fun k => ?_, ?_⟩
  · rw [V5_v7_0, out4_0, arr1_3]; exact hq.s
  · rw [V5_v7_1, out4_1, arr1_4]; exact hq.t
  · rw [V5_v8, out4_2, arr1_5]
    refine (shapeCast_apply _ _ _ (ix3 β j k) ?_).trans ?_
    · rw [Shape.rowMajor_val_two, Shape.rowMajor_val_three]; rfl
    · refine (idAt_spec _ _ _ hq k).trans ?_
      split
      · exact cast_v6 m c β _ _
      · rfl
  · rw [V5_v9, out4_3, arr1_6]
    refine (shapeCast_apply _ _ _ (ix2 β j) ?_).trans hq.s
    rw [Shape.rowMajor_val_two, Shape.rowMajor_val_one]; rfl

end Kernel

end Cert.Proof.Results

end
-- ==== Proof.RefPick.lean ====
/- What the reference picks of each batch: its eight best places, and of those the first four kept. -/
module

public import proofs.«01_k».proof.Proof.RefWords
public import proofs.«01_k».proof.Proof.Kernel

@[expose] public section

noncomputable section

namespace Cert.Proof.Ref

open Idealize.ShloMosaic Idealize.ShloMosaic.ValueIdx Idealize.ShloMosaic.StableHlo
open Cert.ReferenceIdeal Cert.ReferenceIdeal.Gen Cert.ReferenceIdeal.Value
open Cert.Proof.Order Cert.Proof.Score Cert.Proof.Tables
open Cert.Proof.Merge (keep join four_kept)

variable (W : Valuation τ sig (Elt Idealize.ShloMosaic.Ideal))

abbrev best8 : S32x8.Idx → EReal := (Host.topK S32x8 1 (FloatOps.cmpfTotal .gt) (res_main_v34 W) sliceFits_S32x131072_S32x8).1
abbrev place8 : IVec S32x8 32 := res_main_indices W
abbrev token8 : IVec S32x8 32 := res_main_v36 W
abbrev beam8 : IVec S32x8 32 :=
  select (andi (cmpi .ne (signi (res_main_indices W)) (broadcastInDim S32x8 ![] bcast_S_S32x8 (signi (res_main_call2_v0 W)))) (cmpi .ne (Host.remsi (res_main_indices W) (broadcastInDim S32x8 ![] bcast_S_S32x8 (res_main_call2_v0 W))) (broadcastInDim S32x8 ![] bcast_S_S32x8 (constantI S_ 32 0#32)))) (subi (res_main_call2_v2 W) (broadcastInDim S32x8 ![] bcast_S_S32x8 (constantI S_ 32 1#32))) (res_main_call2_v2 W)
abbrev kept8 : IVec S32x8 1 := res_main_v38 W
abbrev key8 : IVec S32x8 32 := res_main_v45 W
abbrev order4 : IVec S32x4 32 := res_main_v47 W

section Batch
variable (hX : ∀ i, ∃ r : ℝ, X W i = r) (hT : ∀ i, (T W i).toNat < 32768) (β : Fin 32) (I : List (Fin 131072))
  (hI : I.map (rank (join (scores (X W) (B W) (T W) β))) = List.range 8)
include hX hT hI

theorem best_place (k : Fin 8) (i : Fin 131072) (hk : I[k.val]? = some i) :
    best8 W (ix2 β k) = join (scores (X W) (B W) (T W) β) i ∧ place8 W (ix2 β k) = BitVec.ofNat 32 i.val := by
  have e : (fun j => flatScores W (ix2 β j)) = join (scores (X W) (B W) (T W) β) := funext (flatScores_apply W hX hT β)
  have h := topK_row (flatScores W) β I (by rw [e]; exact hI) k i hk
  exact ⟨h.1.trans (congrFun e i), h.2⟩

theorem token8_apply (k : Fin 8) (i : Fin 131072) (hk : I[k.val]? = some i) :
    token8 W (ix2 β k) = BitVec.ofNat 32 (i.val % 32768) :=
  token_word (place8 W) (res_main_call3_v2 W) (fun _ => rfl) (ix2 β k) i.val i.2 (best_place W hX hT β I hI k i hk).2

theorem beam8_apply (k : Fin 8) (i : Fin 131072) (hk : I[k.val]? = some i) :
    beam8 W (ix2 β k) = BitVec.ofNat 32 (i.val / 32768) :=
  beam_word (place8 W) (res_main_call2_v0 W) (fun _ => rfl) (ix2 β k) i.val i.2 (best_place W hX hT β I hI k i hk).2

omit hX hT in
theorem length8 : I.length = 8 := by simpa using congrArg List.length hI

omit hX hT in
theorem entry (k : Fin 8) : ∃ i, I[k.val]? = some i :=
  ⟨I[k.val]'(by rw [length8 W β I hI]; exact k.2), List.getElem?_eq_getElem _⟩

theorem kept8_apply (k : Fin 8) : kept8 W (ix2 β k) = BitVec.ofBool ((I[k.val]?).any keep) := by
  obtain ⟨i, hi⟩ := entry W β I hI k
  rw [hi]
  exact kept_word (token8 W) (ix2 β k) (i.val % 32768) (Nat.mod_lt _ (by decide)) (token8_apply W hX hT β I hI k i hi)

theorem key8_apply (k : Fin 8) : key8 W (ix2 β k) = BitVec.ofNat 32 (1 - first4 (fun k => (I[k]?).any keep) k.val) :=
  key_word (kept8 W) β (fun k => (I[k]?).any keep) (kept8_apply W hX hT β I hI) _ rfl k

/-- The `j`-th the reference reorders to the front is the `j`-th kept of its eight best. -/
theorem order4_apply (j : Fin 4) : ∃ s : Fin 8, order4 W (ix2 β j) = BitVec.ofNat 32 s.val ∧
    ∃ i, I[s.val]? = some i ∧ (I.filter keep)[j.val]? = some i := by
  obtain ⟨s, hs, e⟩ := sort_row (key8 W) β (fun k => first4 (fun k => (I[k]?).any keep) k.val)
    (fun k => by unfold first4; split <;> omega) (key8_apply W hX hT β I hI) j
  refine ⟨s, e, ?_⟩
  obtain ⟨i, hi⟩ := entry W β I hI s
  have h4 : 4 ≤ cnt (fun k => (I[k]?).any keep) 8 := by
    have := four_kept I hI
    rwa [filter_length, length8 W β I hI] at this
  obtain ⟨hk, hc⟩ := pick _ h4 s (hs.trans_lt j.2)
  refine ⟨i, hi, ?_⟩
  rw [hi] at hk
  rw [← hs, ← hc]
  exact filter_at keep I s.val i hi hk

end Batch

/-- A table of eight a batch, read at the wrapped order. -/
theorem picked {α : Type} (x : S32x8.Idx → α) (o z : IVec S32x4 32) (β : Fin 32) (j : Fin 4) (s : Fin 8) (hs : o (ix2 β j) = BitVec.ofNat 32 s.val) :
    Host.gather gather_S32x8_S32x4x1_S32x4_n_1_0_0_1_2_11 x (shapeCast S32x4x1
      (select (cmpi .slt o (broadcastInDim S32x4 ![] bcast_S_S32x4 (constantI S_ 32 0#32))) z o) shapeCasts_S32x4_S32x4x1) (ix2 β j) = x (ix2 β s) := by
  have h8 := s.2
  refine along_apply _ _ _ β j s (by decide) ?_
  have e : (o (ix2 β j)).toNat = s.val := by rw [hs, BitVec.toNat_ofNat]; omega
  rw [← e]
  congr 1
  refine (shapeCast_apply _ _ _ (ix2 β j) ?_).trans (Routing.wrap_of_lt _ _ (by rw [e]; omega))
  rw [Shape.rowMajor_val_two, Shape.rowMajor_val_three]
  show β.val * 4 + j.val = (β.val * 4 + j.val) * 1 + 0
  omega

/-- One a batch and place of four, laid out by rows. -/
theorem rows4 {α : Type} (x : S32x4.Idx → α) (β : Fin 32) (j : Fin 4) : shapeCast S128 x shapeCasts_S32x4_S128 (ix1 (rowOf β j)) = x (ix2 β j) := by
  refine shapeCast_apply _ _ _ (ix2 β j) ?_
  rw [Shape.rowMajor_val_two, Shape.rowMajor_val_one]
  rfl

theorem rows4c {α : Type} (x : S32x4.Idx → α) (β : Fin 32) (j : Fin 4) : shapeCast S128x1 x shapeCasts_S32x4_S128x1 (ix2 (rowOf β j) 0) = x (ix2 β j) := by
  refine shapeCast_apply _ _ _ (ix2 β j) ?_
  rw [Shape.rowMajor_val_two, Shape.rowMajor_val_two]
  show β.val * 4 + j.val = (β.val * 4 + j.val) * 1 + 0
  omega

/-- The row a beam stands in. -/
theorem row_word (x : IVec S32x4 32) (β : Fin 32) (j w : Fin 4) (hx : x (ix2 β j) = BitVec.ofNat 32 w.val) :
    shapeCast S128 (addi (broadcastInDim S32x4 ![0, 1] bcast_S32x1_S32x4_0_1 (muli (broadcastInDim S32x1 ![0] bcast_S32_S32x1_0 (iotaInDim S32 32 0))
      (broadcastInDim S32x1 ![] bcast_S_S32x1 (constantI S_ 32 4#32)))) x) shapeCasts_S32x4_S128 (ix1 (rowOf β j)) = BitVec.ofNat 32 (rowOf β w).val := by
  have hβ := β.2
  have hw := w.2
  refine (rows4 _ β j).trans ?_
  refine (congrArg₂ IntOp.addi (broadcastInDim_apply _ _ _ (ix2 β j) (ix2 β 0) (fun a => by fin_cases a <;> rfl)) hx).trans ?_
  show IntOp.addi (IntOp.muli (BitVec.ofNat 32 β.val) 4#32) _ = _
  apply BitVec.eq_of_toNat_eq
  show (BitVec.ofNat 32 β.val * 4#32 + BitVec.ofNat 32 w.val).toNat = (BitVec.ofNat 32 (β.val * 4 + w.val)).toNat
  simp only [BitVec.toNat_add, BitVec.toNat_mul, BitVec.toNat_ofNat]
  omega

/-- The reordered tokens, a row each, with the picked token after them. -/
theorem rows51 (t : S128x50.Idx → BitVec 32) (r z : IVec S128 32) (v : S128x1.Idx → BitVec 32) (a b : Fin 128) (hr : r (ix1 a) = BitVec.ofNat 32 b.val) (k : Fin 51) :
    concatenate S128x51 1 [⟨S128x50, Host.gather gather_S128x50_S128x1_S128x50_1_0_n_n_0_1_150 t (broadcastInDim S128x1 ![0] bcast_S128_S128x1_0
      (select (cmpi .slt r (broadcastInDim S128 ![] bcast_S_S128 (constantI S_ 32 0#32))) z r))⟩, ⟨S128x1, v⟩] concatenates_S128x50_S128x1_S128x51_d1 (ix2 a k)
      = if hk : k.val < 50 then t (ix2 b ⟨k.val, hk⟩) else v (ix2 a 0) := by
  have hb := b.2
  by_cases hk : k.val < 50
  · rw [dif_pos hk]
    refine (concatenate_pair_apply_left (t := S128x51) (s₁ := S128x50) (s₂ := S128x1) 1 _ _ _ (ix2 a k) rfl (ix2 a ⟨k.val, hk⟩) (fun q => by fin_cases q <;> rfl)).trans ?_
    refine Routing.gather_row _ rfl rfl rfl rfl rfl t _ a ⟨k.val, hk⟩ b ?_ (by decide)
    refine (broadcastInDim_apply _ _ _ _ (ix1 a) (fun a => by fin_cases a <;> rfl)).trans ?_
    refine (Routing.wrap_of_lt _ _ ?_).trans hr
    rw [hr, BitVec.toNat_ofNat]
    omega
  · rw [dif_neg hk]
    refine concatenate_pair_apply_right (t := S128x51) (s₁ := S128x50) (s₂ := S128x1) 1 _ _ _ (ix2 a k) rfl rfl (ix2 a 0)
      (fun q hq => by fin_cases q <;> first | rfl | exact absurd rfl hq) ?_
    have := k.2
    show 50 + 0 = k.val
    omega

end Cert.Proof.Ref

end
-- ==== Proof.RefTop.lean ====
/- The reference's four results, batch by batch. -/
module

public import proofs.«01_k».proof.Proof.RefPick

@[expose] public section

noncomputable section

namespace Cert.Proof.Ref

open Idealize.ShloMosaic Idealize.ShloMosaic.ValueIdx Idealize.ShloMosaic.StableHlo
open Cert.ReferenceIdeal Cert.ReferenceIdeal.Gen Cert.ReferenceIdeal.Value
open Cert.Proof.Order Cert.Proof.Score Cert.Proof.Tables Cert.Proof.Results
open Cert.Proof.Merge (keep join four_kept)

variable (W : Valuation τ sig (Elt Idealize.ShloMosaic.Ideal))

abbrev best4 : S32x4.Idx → EReal := Host.gather gather_S32x8_S32x4x1_S32x4_n_1_0_0_1_2_11 ((Host.topK S32x8 1 (FloatOps.cmpfTotal .gt) (res_main_v34 W) sliceFits_S32x131072_S32x8).1) (shapeCast _ (select (cmpi .slt (res_main_v47 W) (broadcastInDim S32x4 ![] bcast_S_S32x4 (constantI S_ 32 0#32))) (addi (res_main_v47 W) (broadcastInDim S32x4 ![] bcast_S_S32x4 (constantI S_ 32 8#32))) (res_main_v47 W)) shapeCasts_S32x4_S32x4x1)
abbrev token4 : IVec S32x4 32 := Host.gather gather_S32x8_S32x4x1_S32x4_n_1_0_0_1_2_11 (res_main_v36 W) (shapeCast _ (select (cmpi .slt (res_main_v47 W) (broadcastInDim S32x4 ![] bcast_S_S32x4 (constantI S_ 32 0#32))) (addi (res_main_v47 W) (broadcastInDim S32x4 ![] bcast_S_S32x4 (constantI S_ 32 8#32))) (res_main_v47 W)) shapeCasts_S32x4_S32x4x1)
abbrev beam4 : IVec S32x4 32 := Host.gather gather_S32x8_S32x4x1_S32x4_n_1_0_0_1_2_11 (beam8 W) (shapeCast _ (select (cmpi .slt (res_main_v47 W) (broadcastInDim S32x4 ![] bcast_S_S32x4 (constantI S_ 32 0#32))) (addi (res_main_v47 W) (broadcastInDim S32x4 ![] bcast_S_S32x4 (constantI S_ 32 8#32))) (res_main_v47 W)) shapeCasts_S32x4_S32x4x1)
abbrev rows128 : IVec S128 32 := res_main_v58 W

theorem reference_holds (hX : ∀ i, ∃ r : ℝ, X W i = r) (hT : ∀ i, (T W i).toNat < 32768) (β : Fin 32) (I : List (Fin 131072))
    (hI : I.map (rank (join (scores (X W) (B W) (T W) β))) = List.range 8) :
    Holds (X W) (B W) (T W) β I (best4 W) (token4 W)
      (concatenate S128x51 1 [⟨S128x50, (Host.gather gather_S128x50_S128x1_S128x50_1_0_n_n_0_1_150 (W (Proc.devRef .tc main_arg2)) (broadcastInDim S128x1 ![0] bcast_S128_S128x1_0 (select (cmpi .slt (res_main_v58 W) (broadcastInDim S128 ![] bcast_S_S128 (constantI S_ 32 0#32))) (addi (res_main_v58 W) (broadcastInDim S128 ![] bcast_S_S128 (constantI S_ 32 128#32))) (res_main_v58 W))))⟩, ⟨S128x1, (shapeCast _ (token4 W) shapeCasts_S32x4_S128x1)⟩] concatenates_S128x50_S128x1_S128x51_d1)
      (shapeCast S128 (best4 W) shapeCasts_S32x4_S128) := by
  intro j i hj
  obtain ⟨s, hs, i', hi', hf⟩ := order4_apply W hX hT β I hI j
  obtain rfl : i' = i := Option.some.inj (hf.symm.trans hj)
  have hb : best4 W (ix2 β j) = join (scores (X W) (B W) (T W) β) i' :=
    (picked _ (order4 W) _ β j s hs).trans (best_place W hX hT β I hI s i' hi').1
  have ht : token4 W (ix2 β j) = BitVec.ofNat 32 (i'.val % 32768) :=
    (picked (token8 W) (order4 W) _ β j s hs).trans (token8_apply W hX hT β I hI s i' hi')
  have hr : rows128 W (ix1 (rowOf β j)) = BitVec.ofNat 32 (rowOf β ⟨i'.val / 32768, div_lt i'⟩).val :=
    row_word (beam4 W) β j ⟨i'.val / 32768, div_lt i'⟩ ((picked (beam8 W) (order4 W) _ β j s hs).trans (beam8_apply W hX hT β I hI s i' hi'))
  refine ⟨hb, ht, fun k => ?_, (rows4 _ β j).trans hb⟩
  refine (rows51 (T W) (rows128 W) _ _ (rowOf β j) _ hr k).trans ?_
  by_cases hk : k.val < 50
  · rw [dif_pos hk, dif_pos hk]
  · rw [dif_neg hk, dif_neg hk]
    exact (rows4c _ β j).trans ht

/-- Results that hold what the reference's do, of the same arguments, are the reference's. -/
theorem reference_same {X' : Scores} {B' : Beams} {T' : Tokens} (eX : X W = X') (eB : B W = B') (eT : T W = T')
    (hX : ∀ i, ∃ r : ℝ, X' i = r) (hT : ∀ i, (T' i).toNat < 32768) {v0 v1 v2 v3}
    (h : ∀ β : Fin 32, ∃ I : List (Fin 131072), I.map (rank (join (scores X' B' T' β))) = List.range 8 ∧ Holds X' B' T' β I v0 v1 v2 v3) :
    best4 W = v0 ∧ token4 W = v1
    ∧ concatenate S128x51 1 [⟨S128x50, (Host.gather gather_S128x50_S128x1_S128x50_1_0_n_n_0_1_150 (W (Proc.devRef .tc main_arg2)) (broadcastInDim S128x1 ![0] bcast_S128_S128x1_0 (select (cmpi .slt (res_main_v58 W) (broadcastInDim S128 ![] bcast_S_S128 (constantI S_ 32 0#32))) (addi (res_main_v58 W) (broadcastInDim S128 ![] bcast_S_S128 (constantI S_ 32 128#32))) (res_main_v58 W))))⟩, ⟨S128x1, (shapeCast _ (token4 W) shapeCasts_S32x4_S128x1)⟩] concatenates_S128x50_S128x1_S128x51_d1 = v2
    ∧ shapeCast S128 (best4 W) shapeCasts_S32x4_S128 = v3 := by
  subst eX eB eT
  choose I hI hv using h
  exact holds_unique hI (fun β => reference_holds W hX hT β (I β) (hI β)) hv

end Cert.Proof.Ref

end
-- ==== Proof.Algebraic.lean ====
/- The value claim: the kernel's four results are the reference's. -/
module

public import proofs.«01_k».proof.Proof.RefTop
public import proofs.«01_k».proof.Proof.Frames

@[expose] public section

noncomputable section

namespace Cert.Proof.Results

open Idealize.ShloMosaic Idealize.ShloMosaic.ValueIdx Idealize.ShloMosaic.TcCoe
open Cert.Proof.Score

section Run
open Cert.KernelIdeal Cert.KernelIdeal.Gen Cert.Proof.Entry Cert.Proof.Frames

variable (m : (ℓ : Loc nD τ sig) → Buf (Elt Idealize.ShloMosaic.Ideal) ℓ)

/-- A run of the kernel: its results, and its arguments unchanged. -/
theorem kernel_run (ρ : Dev nD → PrngReg) (hT : TokOk (bufs (V1 m))) :
    θ_run defs (onTc (τ := τ) (main (F := Idealize.ShloMosaic.Ideal))) ⟨m, fun _ => 0, ρ⟩ (fun r => ∀ c : Dev nD,
      r.2.mem ((c.tc : Thread nD τ).loc main_v7_0) = V5 m (outs m) c main_v7_0
      ∧ r.2.mem ((c.tc : Thread nD τ).loc main_v7_1) = V5 m (outs m) c main_v7_1
      ∧ r.2.mem ((c.tc : Thread nD τ).loc main_v8) = V5 m (outs m) c main_v8
      ∧ r.2.mem ((c.tc : Thread nD τ).loc main_v9) = V5 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h.1 c _ uc_v7_0, h.1 c _ uc_v7_1, h.1 c _ uc_v8, h.1 c _ uc_v9,
    (h.1 c _ uc_arg0).trans (V5_main_arg0 m _ c), (h.1 c _ uc_arg1).trans (V5_main_arg1 m _ c),
    (h.1 c _ uc_arg2).trans (V5_main_arg2 m _ c)⟩) (run_main m ρ hT)

end Run

theorem algebraic : Cert.algebraic_KernelIdeal_ReferenceIdeal_pre_finite_and_in_range (hKernelIdeal := Cert.KernelIdeal.Gen.facts)
    (hReferenceIdeal := Cert.ReferenceIdeal.Gen.facts) (hPre_finite_and_in_range := Cert.Pre_finite_and_in_range.Gen.facts) := by
  intro m g m' g' hp he
  have hX : ∀ c i, ∃ r : ℝ, argX m c i = r := fun c i => Pre.real_of_abs _ ((Pre.split_pre _ _ _ (hp c)).1 i)
  have hB : ∀ c i, ∃ r : ℝ, argB m c i = r := fun c i => Pre.real_of_abs _ ((Pre.split_pre _ _ _ (hp c)).2.1 i)
  have hT : ∀ c i, (argT m c i).toNat < 32768 := fun c i => (Pre.split_pre _ _ _ (hp c)).2.2 i
  refine ⟨_, _, _, _, kernel_run m g (Frames.tokOk m hT), ?_⟩
  refine (θ_run _ _ _).mono (fun r h c => ?_) (Cert.ReferenceIdeal.Value.run m' g')
  have hs := Ref.reference_same (StableHlo.launchContents m' c) (X' := argX m c) (B' := argB m c) (T' := argT m c) (he c).1 (he c).2.1 (he c).2.2 (hX c) (hT c)
    (kernel_holds m c (hX c) (hB c))
  obtain ⟨h0, h1, h2, h3, h4⟩ := h c
  exact ⟨h0.trans hs.1, h1.trans hs.2.1, h2.trans hs.2.2.1, h3.trans hs.2.2.2, h4⟩

end Cert.Proof.Results

end
-- ==== Proof.lean ====
/- The certificate: the frame claims, the named constant's entry, and the value claim, assembled from the modules under
   Proof/. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_tokens_in_range
public import proofs.«01_k».proof.Proof.Gen.Pre_finite_and_in_range
public import proofs.«01_k».proof.Proof.PreFinite
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Pre_tokens_in_range.Gen.facts, Cert.Pre_finite_and_in_range.Gen.facts, Frames.quiescent_kernel, Frames.quiescent_ideal,
  Frames.quiescent_ideal_finite, Frames.quiescent_reference, Frames.quiescent_reference_finite, Frames.preserves, Results.algebraic⟩

end Cert.Proof

end
